-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_legal [hPre_legal : Cert.Pre_legal.Facts] (m : (ℓ : Loc Cert.KernelIdeal.nD Cert.KernelIdeal.τ Cert.KernelIdeal.sig) → Buf (Elt Ideal) ℓ) : Prop :=
  ∀ c : Dev Cert.KernelIdeal.nD,
    (Cert.Pre_legal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_legal [hPre_legal : Cert.Pre_legal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_legal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_KernelIdeal_pre_legal [hKernelIdeal : Cert.KernelIdeal.Facts] [hPre_legal : Cert.Pre_legal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_legal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_ReferenceIdeal_pre_legal [hReferenceIdeal : Cert.ReferenceIdeal.Facts] [hPre_legal : Cert.Pre_legal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_legal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def preserves_Kernel_KernelIdeal : Prop :=
  True

def algebraic_KernelIdeal_ReferenceIdeal_pre_legal [hKernelIdeal : Cert.KernelIdeal.Facts] [hReferenceIdeal : Cert.ReferenceIdeal.Facts] [hPre_legal : Cert.Pre_legal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_legal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v21_0)) (v1 : (c : Dev Cert.KernelIdeal.nD) → Buf (Elt Ideal) ((c.tc : Thread Cert.KernelIdeal.nD Cert.KernelIdeal.τ).loc Cert.KernelIdeal.main_v21_1)) (v2 : (c : Dev Cert.KernelIdeal.nD) → Buf (Elt Ideal) ((c.tc : Thread Cert.KernelIdeal.nD Cert.KernelIdeal.τ).loc Cert.KernelIdeal.main_v21_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v21_0) = v0 c
          ∧ r.2.mem ((c.tc : Thread Cert.KernelIdeal.nD Cert.KernelIdeal.τ).loc Cert.KernelIdeal.main_v21_1) = v1 c
          ∧ r.2.mem ((c.tc : Thread Cert.KernelIdeal.nD Cert.KernelIdeal.τ).loc Cert.KernelIdeal.main_v21_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v66) = v0 c
          ∧ r.2.mem ((c.tc : Thread Cert.ReferenceIdeal.nD Cert.ReferenceIdeal.τ).loc Cert.ReferenceIdeal.main_v67) = v1 c
          ∧ r.2.mem ((c.tc : Thread Cert.ReferenceIdeal.nD Cert.ReferenceIdeal.τ).loc Cert.ReferenceIdeal.main_v68) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_legal : Cert.Pre_legal.Facts),
    quiescent_Kernel (hKernel := hKernel)
    ∧ quiescent_KernelIdeal (hKernelIdeal := hKernelIdeal)
    ∧ quiescent_KernelIdeal_pre_legal (hKernelIdeal := hKernelIdeal) (hPre_legal := hPre_legal)
    ∧ quiescent_ReferenceIdeal (hReferenceIdeal := hReferenceIdeal)
    ∧ quiescent_ReferenceIdeal_pre_legal (hReferenceIdeal := hReferenceIdeal) (hPre_legal := hPre_legal)
    ∧ preserves_Kernel_KernelIdeal
    ∧ algebraic_KernelIdeal_ReferenceIdeal_pre_legal (hKernelIdeal := hKernelIdeal) (hReferenceIdeal := hReferenceIdeal) (hPre_legal := hPre_legal)
-- ==== Pre_legal.lean ====
abbrev S2688x8192 : Shape := ⟨2, ![2688, 8192]⟩
abbrev S2688x1 : Shape := ⟨2, ![2688, 1]⟩
abbrev S32000x8192 : Shape := ⟨2, ![32000, 8192]⟩
abbrev S32000 : Shape := ⟨1, ![32000]⟩
abbrev S448x6x1000 : Shape := ⟨3, ![448, 6, 1000]⟩
abbrev S448x6 : Shape := ⟨2, ![448, 6]⟩
abbrev S8x1000 : Shape := ⟨2, ![8, 1000]⟩
abbrev S256x8192 : Shape := ⟨2, ![256, 8192]⟩
abbrev S1x256 : Shape := ⟨2, ![1, 256]⟩
abbrev S2688x24 : Shape := ⟨2, ![2688, 24]⟩
abbrev S_ : Shape := ⟨0, ![]⟩
abbrev S1000 : Shape := ⟨1, ![1000]⟩
abbrev S1x1x1000 : Shape := ⟨3, ![1, 1, 1000]⟩

class Facts : Prop where
  bcast_S_S448x6 : S_.BroadcastsInDim S448x6 (![] : Fin 0 → Fin S448x6.rank)
  reducesTo_S448x6_S_d0_1 : S448x6.ReducesTo [0, 1] S_
  h_S_ : 0 < S_.numel
  bcast_S_S448x6x1000 : S_.BroadcastsInDim S448x6x1000 (![] : Fin 0 → Fin S448x6x1000.rank)
  bcast_S_S8x1000 : S_.BroadcastsInDim S8x1000 (![] : Fin 0 → Fin S8x1000.rank)
  reducesTo_S8x1000_S1000_d0 : S8x1000.ReducesTo [0] S1000
  bcast_S1000_S1x1x1000_2 : S1000.BroadcastsInDim S1x1x1000 (![2] : Fin 1 → Fin S1x1x1000.rank)
  bcast_S1x1x1000_S448x6x1000_0_1_2 : S1x1x1000.BroadcastsInDim S448x6x1000 (![0, 1, 2] : Fin 3 → Fin S448x6x1000.rank)
  reducesTo_S448x6x1000_S_d0_1_2 : S448x6x1000.ReducesTo [0, 1, 2] S_

variable [Facts]

def fn {F : FTy → Type} [FloatOps F] (main_arg0 : FVec F S2688x8192 .fp8e4m3) (main_arg1 : FVec F S2688x1 .f32) (main_arg2 : FVec F S32000x8192 .fp8e4m3) (main_arg3 : FVec F S32000 .f32) (main_arg4 : IVec S448x6x1000 32) (main_arg5 : IVec S448x6 32) (main_arg6 : IVec S8x1000 32) (main_arg7 : FVec F S256x8192 .fp8e4m3) (main_arg8 : FVec F S1x256 .f32) (main_arg9 : IVec S2688x24 32) : IVec S_ 1 :=
  let main_c : IVec S_ 32 := constantI S_ 32 0#32
  let main_v0 : IVec S448x6 32 := broadcastInDim S448x6 ![] bcast_S_S448x6 main_c
  let main_v1 : IVec S448x6 1 := cmpi .sge main_arg5 main_v0
  let main_c_0 : IVec S_ 32 := constantI S_ 32 32000#32
  let main_v2 : IVec S448x6 32 := broadcastInDim S448x6 ![] bcast_S_S448x6 main_c_0
  let main_v3 : IVec S448x6 1 := cmpi .slt main_arg5 main_v2
  let main_v4 : IVec S448x6 1 := andi main_v1 main_v3
  let main_c_1 : IVec S_ 1 := constantI S_ 1 1#1
  let main_v5 : IVec S_ 1 := (fun x v => Host.reduce IntOp.andi x v reducesTo_S448x6_S_d0_1 h_S_) main_v4 main_c_1
  let main_c_2 : IVec S_ 32 := constantI S_ 32 0#32
  let main_v6 : IVec S448x6x1000 32 := broadcastInDim S448x6x1000 ![] bcast_S_S448x6x1000 main_c_2
  let main_v7 : IVec S448x6x1000 1 := cmpi .eq main_arg4 main_v6
  let main_c_3 : IVec S_ 32 := constantI S_ 32 0#32
  let main_v8 : IVec S8x1000 32 := broadcastInDim S8x1000 ![] bcast_S_S8x1000 main_c_3
  let main_v9 : IVec S8x1000 1 := cmpi .ne main_arg6 main_v8
  let main_c_4 : IVec S_ 1 := constantI S_ 1 0#1
  let main_v10 : IVec S1000 1 := (fun x v => Host.reduce IntOp.ori x v reducesTo_S8x1000_S1000_d0 h_S_) main_v9 main_c_4
  let main_v11 : IVec S1x1x1000 1 := broadcastInDim S1x1x1000 ![2] bcast_S1000_S1x1x1000_2 main_v10
  let main_v12 : IVec S448x6x1000 1 := broadcastInDim S448x6x1000 ![0, 1, 2] bcast_S1x1x1000_S448x6x1000_0_1_2 main_v11
  let main_v13 : IVec S448x6x1000 1 := ori main_v7 main_v12
  let main_c_5 : IVec S_ 1 := constantI S_ 1 1#1
  let main_v14 : IVec S_ 1 := (fun x v => Host.reduce IntOp.andi x v reducesTo_S448x6x1000_S_d0_1_2 h_S_) main_v13 main_c_5
  let main_v15 : IVec S_ 1 := andi main_v5 main_v14
  main_v15
-- ==== Kernel.lean ====
abbrev S2688x8192 : Shape := ⟨2, ![2688, 8192]⟩
abbrev S2688x1 : Shape := ⟨2, ![2688, 1]⟩
abbrev S32000x8192 : Shape := ⟨2, ![32000, 8192]⟩
abbrev S32000 : Shape := ⟨1, ![32000]⟩
abbrev S448x6x1000 : Shape := ⟨3, ![448, 6, 1000]⟩
abbrev S448x6 : Shape := ⟨2, ![448, 6]⟩
abbrev S8x1000 : Shape := ⟨2, ![8, 1000]⟩
abbrev S256x8192 : Shape := ⟨2, ![256, 8192]⟩
abbrev S1x256 : Shape := ⟨2, ![1, 256]⟩
abbrev S2688x24 : Shape := ⟨2, ![2688, 24]⟩
abbrev S6x448x1000 : Shape := ⟨3, ![6, 448, 1000]⟩
abbrev S2688x1000 : Shape := ⟨2, ![2688, 1000]⟩
abbrev S6x448 : Shape := ⟨2, ![6, 448]⟩
abbrev S_ : Shape := ⟨0, ![]⟩
abbrev S8x1008 : Shape := ⟨2, ![8, 1008]⟩
abbrev S8x63x16 : Shape := ⟨3, ![8, 63, 16]⟩
abbrev S63 : Shape := ⟨1, ![63]⟩
abbrev S1x32000 : Shape := ⟨2, ![1, 32000]⟩
abbrev S32256x8192 : Shape := ⟨2, ![32256, 8192]⟩
abbrev S1x32256 : Shape := ⟨2, ![1, 32256]⟩
abbrev S2688x1024 : Shape := ⟨2, ![2688, 1024]⟩
abbrev S1x2688 : Shape := ⟨2, ![1, 2688]⟩
abbrev S63x2688 : Shape := ⟨2, ![63, 2688]⟩
abbrev S512x8192 : Shape := ⟨2, ![512, 8192]⟩
abbrev S1 : Shape := ⟨1, ![1]⟩
abbrev S1x512 : Shape := ⟨2, ![1, 512]⟩
abbrev S2688x128 : Shape := ⟨2, ![2688, 128]⟩
abbrev S64x2688 : Shape := ⟨2, ![64, 2688]⟩
abbrev S448x128 : Shape := ⟨2, ![448, 128]⟩
abbrev S448x8192 : Shape := ⟨2, ![448, 8192]⟩
abbrev S448x512 : Shape := ⟨2, ![448, 512]⟩
abbrev S448x1 : Shape := ⟨2, ![448, 1]⟩
abbrev S448x128x1 : Shape := ⟨3, ![448, 128, 1]⟩
abbrev S1x128 : Shape := ⟨2, ![1, 128]⟩
abbrev S448 : Shape := ⟨1, ![448]⟩
abbrev S128x448 : Shape := ⟨2, ![128, 448]⟩
abbrev S1x448 : Shape := ⟨2, ![1, 448]⟩
abbrev S2688 : Shape := ⟨1, ![2688]⟩

abbrev nBuf : Space → Nat
  | .hbm => 43
  | .vmem => 14
  | .smem => 2
  | _ => 0

abbrev bufTy : (tb : Table) → Fin (tcTables nBuf tb) → BufTy
  | .hbm, ⟨0, _⟩ => ⟨S2688x8192, .fp8e4m3⟩
  | .hbm, ⟨1, _⟩ => ⟨S2688x1, .f32⟩
  | .hbm, ⟨2, _⟩ => ⟨S32000x8192, .fp8e4m3⟩
  | .hbm, ⟨3, _⟩ => ⟨S32000, .f32⟩
  | .hbm, ⟨4, _⟩ => ⟨S448x6x1000, .i32⟩
  | .hbm, ⟨5, _⟩ => ⟨S448x6, .i32⟩
  | .hbm, ⟨6, _⟩ => ⟨S8x1000, .i32⟩
  | .hbm, ⟨7, _⟩ => ⟨S256x8192, .fp8e4m3⟩
  | .hbm, ⟨8, _⟩ => ⟨S1x256, .f32⟩
  | .hbm, ⟨9, _⟩ => ⟨S2688x24, .i32⟩
  | .hbm, ⟨10, _⟩ => ⟨S6x448x1000, .i32⟩
  | .hbm, ⟨11, _⟩ => ⟨S2688x1000, .i32⟩
  | .hbm, ⟨12, _⟩ => ⟨S6x448, .i32⟩
  | .hbm, ⟨13, _⟩ => ⟨S2688x1, .i32⟩
  | .hbm, ⟨14, _⟩ => ⟨S_, .i32⟩
  | .hbm, ⟨15, _⟩ => ⟨S_, .i32⟩
  | .hbm, ⟨16, _⟩ => ⟨S8x1008, .i32⟩
  | .hbm, ⟨17, _⟩ => ⟨S8x63x16, .i32⟩
  | .hbm, ⟨18, _⟩ => ⟨S_, .i32⟩
  | .hbm, ⟨19, _⟩ => ⟨S8x63x16, .i32⟩
  | .hbm, ⟨20, _⟩ => ⟨S8x63x16, .i1⟩
  | .hbm, ⟨21, _⟩ => ⟨S_, .i1⟩
  | .hbm, ⟨22, _⟩ => ⟨S63, .i1⟩
  | .hbm, ⟨23, _⟩ => ⟨S_, .i32⟩
  | .hbm, ⟨24, _⟩ => ⟨S63, .i32⟩
  | .hbm, ⟨25, _⟩ => ⟨S63, .i1⟩
  | .hbm, ⟨26, _⟩ => ⟨S63, .i32⟩
  | .hbm, ⟨27, _⟩ => ⟨S_, .i32⟩
  | .hbm, ⟨28, _⟩ => ⟨S_, .i32⟩
  | .hbm, ⟨29, _⟩ => ⟨S63, .i32⟩
  | .hbm, ⟨30, _⟩ => ⟨S63, .i32⟩
  | .hbm, ⟨31, _⟩ => ⟨S_, .i32⟩
  | .hbm, ⟨32, _⟩ => ⟨S_, .i32⟩
  | .hbm, ⟨33, _⟩ => ⟨S63, .i32⟩
  | .hbm, ⟨34, _⟩ => ⟨S_, .i32⟩
  | .hbm, ⟨35, _⟩ => ⟨S63, .i32⟩
  | .hbm, ⟨36, _⟩ => ⟨S1x32000, .f32⟩
  | .hbm, ⟨37, _⟩ => ⟨S32256x8192, .fp8e4m3⟩
  | .hbm, ⟨38, _⟩ => ⟨S1x32256, .f32⟩
  | .hbm, ⟨39, _⟩ => ⟨S2688x1024, .i32⟩
  | .hbm, ⟨40, _⟩ => ⟨S1x2688, .f32⟩
  | .hbm, ⟨41, _⟩ => ⟨S1x2688, .f32⟩
  | .hbm, ⟨42, _⟩ => ⟨S63x2688, .f32⟩
  | .local _ .vmem, ⟨0, _⟩ => ⟨S512x8192, .fp8e4m3⟩
  | .local _ .vmem, ⟨1, _⟩ => ⟨S512x8192, .fp8e4m3⟩
  | .local _ .vmem, ⟨2, _⟩ => ⟨S1x512, .f32⟩
  | .local _ .vmem, ⟨3, _⟩ => ⟨S1x512, .f32⟩
  | .local _ .vmem, ⟨4, _⟩ => ⟨S2688x128, .i32⟩
  | .local _ .vmem, ⟨5, _⟩ => ⟨S2688x128, .i32⟩
  | .local _ .vmem, ⟨6, _⟩ => ⟨S2688x1, .i32⟩
  | .local _ .vmem, ⟨7, _⟩ => ⟨S2688x1, .f32⟩
  | .local _ .vmem, ⟨8, _⟩ => ⟨S2688x8192, .fp8e4m3⟩
  | .local _ .vmem, ⟨9, _⟩ => ⟨S1x2688, .f32⟩
  | .local _ .vmem, ⟨10, _⟩ => ⟨S1x2688, .f32⟩
  | .local _ .vmem, ⟨11, _⟩ => ⟨S63x2688, .f32⟩
  | .local _ .vmem, ⟨12, _⟩ => ⟨S64x2688, .f32⟩
  | .local _ .vmem, ⟨13, _⟩ => ⟨S1x2688, .f32⟩
  | .local _ .smem, ⟨0, _⟩ => ⟨S63, .i32⟩
  | .local _ .smem, ⟨1, _⟩ => ⟨S63, .i32⟩
  | _, _ => ⟨S2688x8192, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_c : Ref sig .tc := ⟨.hbm, 14, rfl⟩
abbrev main_call0_v0 : Ref sig .tc := ⟨.hbm, 15, rfl⟩
abbrev main_v4 : Ref sig .tc := ⟨.hbm, 16, rfl⟩
abbrev main_v5 : Ref sig .tc := ⟨.hbm, 17, rfl⟩
abbrev main_c_0 : Ref sig .tc := ⟨.hbm, 18, rfl⟩
abbrev main_v6 : Ref sig .tc := ⟨.hbm, 19, rfl⟩
abbrev main_v7 : Ref sig .tc := ⟨.hbm, 20, rfl⟩
abbrev main_c_1 : Ref sig .tc := ⟨.hbm, 21, rfl⟩
abbrev main_v8 : Ref sig .tc := ⟨.hbm, 22, rfl⟩
abbrev main_c_2 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_c_3 : Ref sig .tc := ⟨.hbm, 27, rfl⟩
abbrev main_call1_v0 : Ref sig .tc := ⟨.hbm, 28, rfl⟩
abbrev main_call1_v1 : Ref sig .tc := ⟨.hbm, 29, rfl⟩
abbrev main_v13 : Ref sig .tc := ⟨.hbm, 30, rfl⟩
abbrev main_call2_c : Ref sig .tc := ⟨.hbm, 31, rfl⟩
abbrev main_call2_v0 : Ref sig .tc := ⟨.hbm, 32, rfl⟩
abbrev main_v14 : Ref sig .tc := ⟨.hbm, 33, rfl⟩
abbrev main_c_4 : Ref sig .tc := ⟨.hbm, 34, rfl⟩
abbrev main_v15 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21_0 : Ref sig .tc := ⟨.hbm, 40, rfl⟩
abbrev main_v21_1 : Ref sig .tc := ⟨.hbm, 41, rfl⟩
abbrev main_v21_2 : Ref sig .tc := ⟨.hbm, 42, rfl⟩
abbrev main_v16 : Ref sig .tc := ⟨.smem, 0, rfl⟩
abbrev main_v9 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11

abbrev nD : Nat := 1
abbrev τ : Topo := Topo.v7x

variable {F : FTy → Type} [FloatOps F]

abbrev grid0 : Pipeline.Grid := ⟨1, ![63], ![false]⟩

abbrev pre0 : Pipeline.Prefetch sig := ⟨2, ![main_v16.idx, main_v9.idx], fun | 0 => main_v16.names | 1 => main_v9.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_off2 (i : grid0.Coords) : Fin 2 → Nat :=
  let arg0 : BitVec 32 := BitVec.ofNat 32 (i 0).val
  let v17 : Index := Scalar.indexCast arg0
  let c0 : Index := 0#32
  ![v17.toNat, 0]
def k0_off3 (i : grid0.Coords) : Fin 1 → Nat :=
  let arg0 : BitVec 32 := BitVec.ofNat 32 (i 0).val
  let v8 : Index := Scalar.indexCast arg0
  ![v8.toNat]
def k0_off4 (i : grid0.Coords) : Fin 2 → Nat :=
  let arg0 : BitVec 32 := BitVec.ofNat 32 (i 0).val
  let v424 : Index := Scalar.indexCast arg0
  let c0_139 : Index := 0#32
  ![v424.toNat, 0]
def k0_off5 (i : grid0.Coords) : Fin 2 → Nat :=
  let arg0 : BitVec 32 := BitVec.ofNat 32 (i 0).val
  let v841 : Index := Scalar.indexCast arg0
  let c448_292 : Index := 448#32
  ![v841.toNat, 448]
def k0_off6 (i : grid0.Coords) : Fin 2 → Nat :=
  let arg0 : BitVec 32 := BitVec.ofNat 32 (i 0).val
  let v1258 : Index := Scalar.indexCast arg0
  let c896_445 : Index := 896#32
  ![v1258.toNat, 896]
def k0_off7 (i : grid0.Coords) : Fin 2 → Nat :=
  let arg0 : BitVec 32 := BitVec.ofNat 32 (i 0).val
  let v1675 : Index := Scalar.indexCast arg0
  let c1344_598 : Index := 1344#32
  ![v1675.toNat, 1344]
def k0_off8 (i : grid0.Coords) : Fin 2 → Nat :=
  let arg0 : BitVec 32 := BitVec.ofNat 32 (i 0).val
  let v2092 : Index := Scalar.indexCast arg0
  let c1792_751 : Index := 1792#32
  ![v2092.toNat, 1792]
def k0_off9 (i : grid0.Coords) : Fin 2 → Nat :=
  let arg0 : BitVec 32 := BitVec.ofNat 32 (i 0).val
  let v2509 : Index := Scalar.indexCast arg0
  let c2240_904 : Index := 2240#32
  ![v2509.toNat, 2240]
def k0_cond4 (i : grid0.Coords) : BitVec 1 :=
  let arg0 : BitVec 32 := BitVec.ofNat 32 (i 0).val
  let c62_i32 : BitVec 32 := 62#32
  let v13 : BitVec 1 := Scalar.cmpi .eq arg0 c62_i32
  let v14 : BitVec 32 := Scalar.extui v13
  let c0_i32_5 : BitVec 32 := 0#32
  let v15 : BitVec 1 := Scalar.cmpi .ne v14 c0_i32_5
  v15

def cc0_transform_0 (k0_off1_inb : ∀ i : grid0.Coords, ∀ a, (k0_off1 i) a + S1.size a ≤ S63.size a) (numel1_S1 : S1.numel = 1) (pf : pre0.Contents (Elt F)) (i : grid0.Coords) : Fin 2 → Nat :=
  let arg0 : BitVec 32 := BitVec.ofNat 32 (i 0).val
  let v0 : Index := Scalar.indexCast arg0
  let v1 : BitVec 32 := pf.at 0 (Rect.unit (s := S63) ![v0.toNat] S1.size (k0_off1_inb i)) numel1_S1
  let c0_i32 : BitVec 32 := 0#32
  let c0_i32_0 : BitVec 32 := 0#32
  ![v1.toNat, c0_i32.toNat]

def cc0_transform_1 (k0_off1_inb : ∀ i : grid0.Coords, ∀ a, (k0_off1 i) a + S1.size a ≤ S63.size a) (numel1_S1 : S1.numel = 1) (pf : pre0.Contents (Elt F)) (i : grid0.Coords) : Fin 2 → Nat :=
  let arg0 : BitVec 32 := BitVec.ofNat 32 (i 0).val
  let v0 : Index := Scalar.indexCast arg0
  let v1 : BitVec 32 := pf.at 0 (Rect.unit (s := S63) ![v0.toNat] S1.size (k0_off1_inb i)) numel1_S1
  let c0_i32 : BitVec 32 := 0#32
  let c0_i32_0 : BitVec 32 := 0#32
  ![c0_i32.toNat, v1.toNat]

def cc0_transform_2 (k0_off1_inb : ∀ i : grid0.Coords, ∀ a, (k0_off1 i) a + S1.size a ≤ S63.size a) (numel1_S1 : S1.numel = 1) (pf : pre0.Contents (Elt F)) (i : grid0.Coords) : Fin 2 → Nat :=
  let arg0 : BitVec 32 := BitVec.ofNat 32 (i 0).val
  let v0 : Index := Scalar.indexCast arg0
  let v1 : BitVec 32 := pf.at 0 (Rect.unit (s := S63) ![v0.toNat] S1.size (k0_off1_inb i)) numel1_S1
  let c8_i32 : BitVec 32 := 8#32
  let v2 : BitVec 32 := Scalar.divsi v1 c8_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let c1_i32 : BitVec 32 := 1#32
  let v17 : BitVec 32 := Scalar.subi v2 c1_i32
  let v18 : BitVec 32 := Scalar.select v16 v17 v2
  let c0_i32_4 : BitVec 32 := 0#32
  let c0_i32_5 : BitVec 32 := 0#32
  ![c0_i32_4.toNat, v18.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x8192 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2688x128 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S2688x1 .i32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2688x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2688x8192 .fp8e4m3 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x2688 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x2688 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S63x2688 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== ReferenceIdeal.lean ====
abbrev S2688x8192 : Shape := ⟨2, ![2688, 8192]⟩
abbrev S2688x1 : Shape := ⟨2, ![2688, 1]⟩
abbrev S32000x8192 : Shape := ⟨2, ![32000, 8192]⟩
abbrev S32000 : Shape := ⟨1, ![32000]⟩
abbrev S448x6x1000 : Shape := ⟨3, ![448, 6, 1000]⟩
abbrev S448x6 : Shape := ⟨2, ![448, 6]⟩
abbrev S8x1000 : Shape := ⟨2, ![8, 1000]⟩
abbrev S256x8192 : Shape := ⟨2, ![256, 8192]⟩
abbrev S1x256 : Shape := ⟨2, ![1, 256]⟩
abbrev S2688x24 : Shape := ⟨2, ![2688, 24]⟩
abbrev S2688x32000 : Shape := ⟨2, ![2688, 32000]⟩
abbrev S1x32000 : Shape := ⟨2, ![1, 32000]⟩
abbrev S6x448x1000 : Shape := ⟨3, ![6, 448, 1000]⟩
abbrev S2688x1000 : Shape := ⟨2, ![2688, 1000]⟩
abbrev S6x448 : Shape := ⟨2, ![6, 448]⟩
abbrev S2688 : Shape := ⟨1, ![2688]⟩
abbrev S2688x1000x1 : Shape := ⟨3, ![2688, 1000, 1]⟩
abbrev S32 : Shape := ⟨1, ![32]⟩
abbrev S1x1x32 : Shape := ⟨3, ![1, 1, 32]⟩
abbrev S2688x1000x32 : Shape := ⟨3, ![2688, 1000, 32]⟩
abbrev S_ : Shape := ⟨0, ![]⟩
abbrev S2688x32256 : Shape := ⟨2, ![2688, 32256]⟩
abbrev S2688x63x512 : Shape := ⟨3, ![2688, 63, 512]⟩
abbrev S2688x63 : Shape := ⟨2, ![2688, 63]⟩
abbrev S2688x63x1 : Shape := ⟨3, ![2688, 63, 1]⟩
abbrev S2688x1x1 : Shape := ⟨3, ![2688, 1, 1]⟩
abbrev S1 : Shape := ⟨1, ![1]⟩
abbrev S1x1x1 : Shape := ⟨3, ![1, 1, 1]⟩
abbrev S1x2688 : Shape := ⟨2, ![1, 2688]⟩
abbrev S63x2688 : Shape := ⟨2, ![63, 2688]⟩

abbrev nBuf : Space → Nat
  | .hbm => 184
  | .vmem => 3
  | .smem => 0
  | _ => 0

abbrev hbmTy0_0 (i : Nat) : BufTy := match i % 128 with
  | 0 => ⟨S2688x8192, .fp8e4m3⟩
  | 1 => ⟨S2688x1, .f32⟩
  | 2 => ⟨S32000x8192, .fp8e4m3⟩
  | 3 => ⟨S32000, .f32⟩
  | 4 => ⟨S448x6x1000, .i32⟩
  | 5 => ⟨S448x6, .i32⟩
  | 6 => ⟨S8x1000, .i32⟩
  | 7 => ⟨S256x8192, .fp8e4m3⟩
  | 8 => ⟨S1x256, .f32⟩
  | 9 => ⟨S2688x24, .i32⟩
  | 10 => ⟨S2688x32000, .f32⟩
  | 11 => ⟨S2688x32000, .f32⟩
  | 12 => ⟨S2688x32000, .f32⟩
  | 13 => ⟨S1x32000, .f32⟩
  | 14 => ⟨S2688x32000, .f32⟩
  | 15 => ⟨S2688x32000, .f32⟩
  | 16 => ⟨S6x448x1000, .i32⟩
  | 17 => ⟨S2688x1000, .i32⟩
  | 18 => ⟨S6x448, .i32⟩
  | 19 => ⟨S2688, .i32⟩
  | 20 => ⟨S2688x1000x1, .i32⟩
  | 21 => ⟨S32, .i32⟩
  | 22 => ⟨S1x1x32, .i32⟩
  | 23 => ⟨S2688x1000x32, .i32⟩
  | 24 => ⟨S2688x1000x32, .i32⟩
  | 25 => ⟨S2688x1000x32, .i32⟩
  | 26 => ⟨S_, .i32⟩
  | 27 => ⟨S2688x1000x32, .i32⟩
  | 28 => ⟨S2688x1000x32, .i32⟩
  | 29 => ⟨S2688x32000, .i32⟩
  | 30 => ⟨S_, .i32⟩
  | 31 => ⟨S2688x32000, .i32⟩
  | 32 => ⟨S2688x32000, .i1⟩
  | 33 => ⟨S2688x32000, .i1⟩
  | 34 => ⟨S_, .f32⟩
  | 35 => ⟨S_, .f32⟩
  | 36 => ⟨S2688x32000, .f32⟩
  | 37 => ⟨S2688x32000, .f32⟩
  | 38 => ⟨S_, .f32⟩
  | 39 => ⟨S_, .f32⟩
  | 40 => ⟨S2688x32256, .f32⟩
  | 41 => ⟨S2688x63x512, .f32⟩
  | 42 => ⟨S_, .f32⟩
  | 43 => ⟨S2688x63, .f32⟩
  | 44 => ⟨S_, .f32⟩
  | 45 => ⟨S2688x63, .f32⟩
  | 46 => ⟨S2688x63, .i1⟩
  | 47 => ⟨S_, .f32⟩
  | 48 => ⟨S_, .f32⟩
  | 49 => ⟨S2688x63, .f32⟩
  | 50 => ⟨S2688x63, .f32⟩
  | 51 => ⟨S2688x63x1, .f32⟩
  | 52 => ⟨S2688x63x512, .f32⟩
  | 53 => ⟨S2688x63x512, .f32⟩
  | 54 => ⟨S2688x63x512, .f32⟩
  | 55 => ⟨S_, .f32⟩
  | 56 => ⟨S2688x63, .f32⟩
  | 57 => ⟨S2688x63, .f32⟩
  | 58 => ⟨S2688x63, .f32⟩
  | 59 => ⟨S_, .f32⟩
  | 60 => ⟨S2688, .f32⟩
  | 61 => ⟨S2688x1, .f32⟩
  | 62 => ⟨S2688x63, .f32⟩
  | 63 => ⟨S2688x63, .f32⟩
  | 64 => ⟨S2688x63, .f32⟩
  | 65 => ⟨S_, .f32⟩
  | 66 => ⟨S2688, .f32⟩
  | 67 => ⟨S2688, .f32⟩
  | 68 => ⟨S2688, .f32⟩
  | 69 => ⟨S2688x1, .i32⟩
  | 70 => ⟨S_, .i32⟩
  | 71 => ⟨S2688x1, .i32⟩
  | 72 => ⟨S2688x1, .i1⟩
  | 73 => ⟨S_, .i32⟩
  | 74 => ⟨S2688x1, .i32⟩
  | 75 => ⟨S2688x1, .i32⟩
  | 76 => ⟨S2688x1, .i32⟩
  | 77 => ⟨S2688x1x1, .i32⟩
  | 78 => ⟨S1, .i32⟩
  | 79 => ⟨S_, .i32⟩
  | 80 => ⟨S2688x1x1, .i32⟩
  | 81 => ⟨S2688x1x1, .i1⟩
  | 82 => ⟨S1x1x1, .i32⟩
  | 83 => ⟨S2688x1x1, .i32⟩
  | 84 => ⟨S2688x1x1, .i1⟩
  | 85 => ⟨S2688x1x1, .i1⟩
  | 86 => ⟨S_, .i1⟩
  | 87 => ⟨S2688x1, .i1⟩
  | 88 => ⟨S2688x1, .f32⟩
  | 89 => ⟨S_, .f32⟩
  | 90 => ⟨S2688x1, .f32⟩
  | 91 => ⟨S2688x1, .f32⟩
  | 92 => ⟨S2688, .f32⟩
  | 93 => ⟨S_, .i32⟩
  | 94 => ⟨S_, .i32⟩
  | 95 => ⟨S2688, .i32⟩
  | 96 => ⟨S2688, .i32⟩
  | 97 => ⟨S2688, .i32⟩
  | 98 => ⟨S_, .i32⟩
  | 99 => ⟨S2688, .i32⟩
  | 100 => ⟨S2688, .i1⟩
  | 101 => ⟨S2688, .i32⟩
  | 102 => ⟨S2688, .i32⟩
  | 103 => ⟨S_, .i32⟩
  | 104 => ⟨S2688, .i32⟩
  | 105 => ⟨S2688, .i1⟩
  | 106 => ⟨S2688, .i1⟩
  | 107 => ⟨S_, .i32⟩
  | 108 => ⟨S2688, .i32⟩
  | 109 => ⟨S2688, .i32⟩
  | 110 => ⟨S2688, .i32⟩
  | 111 => ⟨S2688x1, .i32⟩
  | 112 => ⟨S_, .i32⟩
  | 113 => ⟨S2688x1, .i32⟩
  | 114 => ⟨S2688x1, .i1⟩
  | 115 => ⟨S_, .i32⟩
  | 116 => ⟨S2688x1, .i32⟩
  | 117 => ⟨S2688x1, .i32⟩
  | 118 => ⟨S2688x1, .i32⟩
  | 119 => ⟨S2688x1x1, .i32⟩
  | 120 => ⟨S1, .i32⟩
  | 121 => ⟨S_, .i32⟩
  | 122 => ⟨S2688x1x1, .i32⟩
  | 123 => ⟨S2688x1x1, .i1⟩
  | 124 => ⟨S1x1x1, .i32⟩
  | 125 => ⟨S2688x1x1, .i32⟩
  | 126 => ⟨S2688x1x1, .i1⟩
  | 127 => ⟨S2688x1x1, .i1⟩
  | _ => ⟨S2688x8192, .fp8e4m3⟩

abbrev hbmTy0_1 (i : Nat) : BufTy := match i % 128 with
  | 0 => ⟨S_, .i1⟩
  | 1 => ⟨S2688x1, .i1⟩
  | 2 => ⟨S2688x1, .i32⟩
  | 3 => ⟨S_, .i32⟩
  | 4 => ⟨S2688x1, .i32⟩
  | 5 => ⟨S2688x1, .i32⟩
  | 6 => ⟨S2688, .i32⟩
  | 7 => ⟨S_, .i32⟩
  | 8 => ⟨S_, .i32⟩
  | 9 => ⟨S_, .i32⟩
  | 10 => ⟨S_, .i1⟩
  | 11 => ⟨S_, .i32⟩
  | 12 => ⟨S_, .i32⟩
  | 13 => ⟨S2688, .i32⟩
  | 14 => ⟨S2688, .i32⟩
  | 15 => ⟨S_, .i32⟩
  | 16 => ⟨S2688, .i32⟩
  | 17 => ⟨S2688, .i1⟩
  | 18 => ⟨S_, .i32⟩
  | 19 => ⟨S2688, .i32⟩
  | 20 => ⟨S2688, .i1⟩
  | 21 => ⟨S_, .i32⟩
  | 22 => ⟨S_, .i1⟩
  | 23 => ⟨S2688, .i1⟩
  | 24 => ⟨S2688, .i1⟩
  | 25 => ⟨S2688, .i1⟩
  | 26 => ⟨S2688, .i32⟩
  | 27 => ⟨S2688, .i32⟩
  | 28 => ⟨S2688, .i32⟩
  | 29 => ⟨S2688, .i32⟩
  | 30 => ⟨S_, .i32⟩
  | 31 => ⟨S2688, .i32⟩
  | 32 => ⟨S2688, .i32⟩
  | 33 => ⟨S_, .i32⟩
  | 34 => ⟨S2688, .i32⟩
  | 35 => ⟨S2688, .i1⟩
  | 36 => ⟨S_, .f32⟩
  | 37 => ⟨S2688, .f32⟩
  | 38 => ⟨S2688, .i1⟩
  | 39 => ⟨S2688, .i1⟩
  | 40 => ⟨S2688, .f32⟩
  | 41 => ⟨S_, .f32⟩
  | 42 => ⟨S_, .f32⟩
  | 43 => ⟨S2688, .f32⟩
  | 44 => ⟨S2688, .f32⟩
  | 45 => ⟨S_, .f32⟩
  | 46 => ⟨S2688x63, .f32⟩
  | 47 => ⟨S2688x63, .i1⟩
  | 48 => ⟨S2688x63, .i1⟩
  | 49 => ⟨S_, .f32⟩
  | 50 => ⟨S_, .f32⟩
  | 51 => ⟨S2688x63, .f32⟩
  | 52 => ⟨S2688x63, .f32⟩
  | 53 => ⟨S1x2688, .f32⟩
  | 54 => ⟨S1x2688, .f32⟩
  | 55 => ⟨S63x2688, .f32⟩
  | _ => ⟨S2688x8192, .fp8e4m3⟩

abbrev hbmTy (i : Nat) : BufTy := match i / 128 with
  | 0 => hbmTy0_0 i
  | 1 => hbmTy0_1 i
  | _ => ⟨S2688x8192, .fp8e4m3⟩

abbrev bufTy : (tb : Table) → Fin (tcTables nBuf tb) → BufTy
  | .hbm, ⟨i, _⟩ => hbmTy i
  | .local _ .vmem, ⟨0, _⟩ => ⟨S2688x8192, .fp8e4m3⟩
  | .local _ .vmem, ⟨1, _⟩ => ⟨S32000x8192, .fp8e4m3⟩
  | .local _ .vmem, ⟨2, _⟩ => ⟨S2688x32000, .f32⟩
  | _, _ => ⟨S2688x8192, .fp8e4m3⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_c : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_c_0 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst : Ref sig .tc := ⟨.hbm, 34, rfl⟩
abbrev main_call0_v0 : Ref sig .tc := ⟨.hbm, 35, rfl⟩
abbrev main_call0_v1 : Ref sig .tc := ⟨.hbm, 36, rfl⟩
abbrev main_v22 : Ref sig .tc := ⟨.hbm, 37, rfl⟩
abbrev main_cst_1 : Ref sig .tc := ⟨.hbm, 38, rfl⟩
abbrev main_call1_v0 : Ref sig .tc := ⟨.hbm, 39, rfl⟩
abbrev main_v23 : Ref sig .tc := ⟨.hbm, 40, rfl⟩
abbrev main_v24 : Ref sig .tc := ⟨.hbm, 41, rfl⟩
abbrev main_cst_2 : Ref sig .tc := ⟨.hbm, 42, rfl⟩
abbrev main_v25 : Ref sig .tc := ⟨.hbm, 43, rfl⟩
abbrev main_cst_3 : Ref sig .tc := ⟨.hbm, 44, rfl⟩
abbrev main_v26 : Ref sig .tc := ⟨.hbm, 45, rfl⟩
abbrev main_v27 : Ref sig .tc := ⟨.hbm, 46, rfl⟩
abbrev main_cst_4 : Ref sig .tc := ⟨.hbm, 47, rfl⟩
abbrev main_call2_v0 : Ref sig .tc := ⟨.hbm, 48, rfl⟩
abbrev main_call2_v1 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_cst_5 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_cst_6 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_cst_7 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_call3_c : Ref sig .tc := ⟨.hbm, 70, rfl⟩
abbrev main_call3_v0 : Ref sig .tc := ⟨.hbm, 71, rfl⟩
abbrev main_call3_v1 : Ref sig .tc := ⟨.hbm, 72, rfl⟩
abbrev main_call3_c_0 : Ref sig .tc := ⟨.hbm, 73, rfl⟩
abbrev main_call3_v2 : Ref sig .tc := ⟨.hbm, 74, rfl⟩
abbrev main_call3_v3 : Ref sig .tc := ⟨.hbm, 75, rfl⟩
abbrev main_call3_v4 : Ref sig .tc := ⟨.hbm, 76, rfl⟩
abbrev main_call3_v5 : Ref sig .tc := ⟨.hbm, 77, rfl⟩
abbrev main_call3_c_1 : Ref sig .tc := ⟨.hbm, 78, rfl⟩
abbrev main_call3_c_2 : Ref sig .tc := ⟨.hbm, 79, rfl⟩
abbrev main_call3_v6 : Ref sig .tc := ⟨.hbm, 80, rfl⟩
abbrev main_call3_v7 : Ref sig .tc := ⟨.hbm, 81, rfl⟩
abbrev main_call3_v8 : Ref sig .tc := ⟨.hbm, 82, rfl⟩
abbrev main_call3_v9 : Ref sig .tc := ⟨.hbm, 83, rfl⟩
abbrev main_call3_v10 : Ref sig .tc := ⟨.hbm, 84, rfl⟩
abbrev main_call3_v11 : Ref sig .tc := ⟨.hbm, 85, rfl⟩
abbrev main_call3_c_3 : Ref sig .tc := ⟨.hbm, 86, rfl⟩
abbrev main_call3_v12 : Ref sig .tc := ⟨.hbm, 87, rfl⟩
abbrev main_call3_v13 : Ref sig .tc := ⟨.hbm, 88, rfl⟩
abbrev main_call3_cst : Ref sig .tc := ⟨.hbm, 89, rfl⟩
abbrev main_call3_v14 : Ref sig .tc := ⟨.hbm, 90, rfl⟩
abbrev main_v45 : Ref sig .tc := ⟨.hbm, 91, rfl⟩
abbrev main_v46 : Ref sig .tc := ⟨.hbm, 92, rfl⟩
abbrev main_c_8 : Ref sig .tc := ⟨.hbm, 93, rfl⟩
abbrev main_call4_v0 : Ref sig .tc := ⟨.hbm, 94, rfl⟩
abbrev main_call4_v1 : Ref sig .tc := ⟨.hbm, 95, rfl⟩
abbrev main_call4_v2 : Ref sig .tc := ⟨.hbm, 96, rfl⟩
abbrev main_call4_v3 : Ref sig .tc := ⟨.hbm, 97, rfl⟩
abbrev main_call4_v4 : Ref sig .tc := ⟨.hbm, 98, rfl⟩
abbrev main_call4_v5 : Ref sig .tc := ⟨.hbm, 99, rfl⟩
abbrev main_call4_v6 : Ref sig .tc := ⟨.hbm, 100, rfl⟩
abbrev main_call4_v7 : Ref sig .tc := ⟨.hbm, 101, rfl⟩
abbrev main_call4_v8 : Ref sig .tc := ⟨.hbm, 102, rfl⟩
abbrev main_call4_c : Ref sig .tc := ⟨.hbm, 103, rfl⟩
abbrev main_call4_v9 : Ref sig .tc := ⟨.hbm, 104, rfl⟩
abbrev main_call4_v10 : Ref sig .tc := ⟨.hbm, 105, rfl⟩
abbrev main_call4_v11 : Ref sig .tc := ⟨.hbm, 106, rfl⟩
abbrev main_call4_c_0 : Ref sig .tc := ⟨.hbm, 107, rfl⟩
abbrev main_call4_v12 : Ref sig .tc := ⟨.hbm, 108, rfl⟩
abbrev main_call4_v13 : Ref sig .tc := ⟨.hbm, 109, rfl⟩
abbrev main_v47 : Ref sig .tc := ⟨.hbm, 110, rfl⟩
abbrev main_v48 : Ref sig .tc := ⟨.hbm, 111, rfl⟩
abbrev main_call5_c : Ref sig .tc := ⟨.hbm, 112, rfl⟩
abbrev main_call5_v0 : Ref sig .tc := ⟨.hbm, 113, rfl⟩
abbrev main_call5_v1 : Ref sig .tc := ⟨.hbm, 114, rfl⟩
abbrev main_call5_c_0 : Ref sig .tc := ⟨.hbm, 115, rfl⟩
abbrev main_call5_v2 : Ref sig .tc := ⟨.hbm, 116, rfl⟩
abbrev main_call5_v3 : Ref sig .tc := ⟨.hbm, 117, rfl⟩
abbrev main_call5_v4 : Ref sig .tc := ⟨.hbm, 118, rfl⟩
abbrev main_call5_v5 : Ref sig .tc := ⟨.hbm, 119, rfl⟩
abbrev main_call5_c_1 : Ref sig .tc := ⟨.hbm, 120, rfl⟩
abbrev main_call5_c_2 : Ref sig .tc := ⟨.hbm, 121, rfl⟩
abbrev main_call5_v6 : Ref sig .tc := ⟨.hbm, 122, rfl⟩
abbrev main_call5_v7 : Ref sig .tc := ⟨.hbm, 123, rfl⟩
abbrev main_call5_v8 : Ref sig .tc := ⟨.hbm, 124, rfl⟩
abbrev main_call5_v9 : Ref sig .tc := ⟨.hbm, 125, rfl⟩
abbrev main_call5_v10 : Ref sig .tc := ⟨.hbm, 126, rfl⟩
abbrev main_call5_v11 : Ref sig .tc := ⟨.hbm, 127, rfl⟩
abbrev main_call5_c_3 : Ref sig .tc := ⟨.hbm, 128, rfl⟩
abbrev main_call5_v12 : Ref sig .tc := ⟨.hbm, 129, rfl⟩
abbrev main_call5_v13 : Ref sig .tc := ⟨.hbm, 130, rfl⟩
abbrev main_call5_c_4 : Ref sig .tc := ⟨.hbm, 131, rfl⟩
abbrev main_call5_v14 : Ref sig .tc := ⟨.hbm, 132, rfl⟩
abbrev main_v49 : Ref sig .tc := ⟨.hbm, 133, rfl⟩
abbrev main_v50 : Ref sig .tc := ⟨.hbm, 134, rfl⟩
abbrev main_c_9 : Ref sig .tc := ⟨.hbm, 135, rfl⟩
abbrev main_call6_v0 : Ref sig .tc := ⟨.hbm, 136, rfl⟩
abbrev main_call6_c : Ref sig .tc := ⟨.hbm, 137, rfl⟩
abbrev main_call6_v1 : Ref sig .tc := ⟨.hbm, 138, rfl⟩
abbrev main_call6_c_0 : Ref sig .tc := ⟨.hbm, 139, rfl⟩
abbrev main_call6_v2 : Ref sig .tc := ⟨.hbm, 140, rfl⟩
abbrev main_call6_v3 : Ref sig .tc := ⟨.hbm, 141, rfl⟩
abbrev main_call6_v4 : Ref sig .tc := ⟨.hbm, 142, rfl⟩
abbrev main_call6_c_1 : Ref sig .tc := ⟨.hbm, 143, rfl⟩
abbrev main_call6_v5 : Ref sig .tc := ⟨.hbm, 144, rfl⟩
abbrev main_call6_v6 : Ref sig .tc := ⟨.hbm, 145, rfl⟩
abbrev main_call6_c_2 : Ref sig .tc := ⟨.hbm, 146, rfl⟩
abbrev main_call6_v7 : Ref sig .tc := ⟨.hbm, 147, rfl⟩
abbrev main_call6_v8 : Ref sig .tc := ⟨.hbm, 148, rfl⟩
abbrev main_call6_c_3 : Ref sig .tc := ⟨.hbm, 149, rfl⟩
abbrev main_call6_v9 : Ref sig .tc := ⟨.hbm, 150, rfl⟩
abbrev main_call6_v10 : Ref sig .tc := ⟨.hbm, 151, rfl⟩
abbrev main_call6_v11 : Ref sig .tc := ⟨.hbm, 152, rfl⟩
abbrev main_call6_v12 : Ref sig .tc := ⟨.hbm, 153, rfl⟩
abbrev main_call6_v13 : Ref sig .tc := ⟨.hbm, 154, rfl⟩
abbrev main_call6_v14 : Ref sig .tc := ⟨.hbm, 155, rfl⟩
abbrev main_v51 : Ref sig .tc := ⟨.hbm, 156, rfl⟩
abbrev main_v52 : Ref sig .tc := ⟨.hbm, 157, rfl⟩
abbrev main_c_10 : Ref sig .tc := ⟨.hbm, 158, rfl⟩
abbrev main_v53 : Ref sig .tc := ⟨.hbm, 159, rfl⟩
abbrev main_v54 : Ref sig .tc := ⟨.hbm, 160, rfl⟩
abbrev main_c_11 : Ref sig .tc := ⟨.hbm, 161, rfl⟩
abbrev main_v55 : Ref sig .tc := ⟨.hbm, 162, rfl⟩
abbrev main_v56 : Ref sig .tc := ⟨.hbm, 163, rfl⟩
abbrev main_cst_12 : Ref sig .tc := ⟨.hbm, 164, rfl⟩
abbrev main_v57 : Ref sig .tc := ⟨.hbm, 165, rfl⟩
abbrev main_v58 : Ref sig .tc := ⟨.hbm, 166, rfl⟩
abbrev main_v59 : Ref sig .tc := ⟨.hbm, 167, rfl⟩
abbrev main_v60 : Ref sig .tc := ⟨.hbm, 168, rfl⟩
abbrev main_cst_13 : Ref sig .tc := ⟨.hbm, 169, rfl⟩
abbrev main_call7_v0 : Ref sig .tc := ⟨.hbm, 170, rfl⟩
abbrev main_call7_v1 : Ref sig .tc := ⟨.hbm, 171, rfl⟩
abbrev main_v61 : Ref sig .tc := ⟨.hbm, 172, rfl⟩
abbrev main_cst_14 : Ref sig .tc := ⟨.hbm, 173, rfl⟩
abbrev main_v62 : Ref sig .tc := ⟨.hbm, 174, rfl⟩
abbrev main_v63 : Ref sig .tc := ⟨.hbm, 175, rfl⟩
abbrev main_v64 : Ref sig .tc := ⟨.hbm, 176, rfl⟩
abbrev main_cst_15 : Ref sig .tc := ⟨.hbm, 177, rfl⟩
abbrev main_call8_v0 : Ref sig .tc := ⟨.hbm, 178, rfl⟩
abbrev main_call8_v1 : Ref sig .tc := ⟨.hbm, 179, rfl⟩
abbrev main_v65 : Ref sig .tc := ⟨.hbm, 180, rfl⟩
abbrev main_v66 : Ref sig .tc := ⟨.hbm, 181, rfl⟩
abbrev main_v67 : Ref sig .tc := ⟨.hbm, 182, rfl⟩
abbrev main_v68 : Ref sig .tc := ⟨.hbm, 183, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := .none

abbrev stage0_0 : Fin 1 → Memref sig .tc .vmem S2688x8192 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S32000x8192 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2688x32000 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== Proof.Hand.Kit.lean ====
/- What the certificate of the head kernel is stated over: the buffers when the region is entered, the tables, the
   windows' blocks, the branch conditions and the staging memrefs. -/
module

public import proofs.«01_k».proof.Proof.Gen.KernelIdeal.Launch
public import proofs.«01_k».proof.Proof.Gen.KernelIdeal.Skeleton
public import Idealize.ShloMosaic.Lib.Pipeline.Kit
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## custom_call 0 -/

/-! A call with PREFETCHED TABLES: its memrefs and body are stated over the pipeline at ANY admissible contents `a`
    of the tables (a certificate instantiates them at the contents it reads off the launch memory). A window whose
    index map reads no table has the same schedule at every `a`: stated over the grid, the window's direction and
    that map alone (Lib/Pipeline/Kit.lean `Window.fetchOf` / `flushOf`), proved from the map and the fact about the
    axes it reads (`hreadsK_W`) or decided, and restated over the pinned window, which unfolds to them. A window whose
    map reads a table gets none here. -/

-- window 0: no schedule fact — its index map reads a prefetched table, so where it is fetched or written back depends on the tables' contents
-- window 1: no schedule fact — its index map reads a prefetched table, so where it is fetched or written back depends on the tables' contents
-- window 2: no schedule fact — its index map reads a prefetched table, so where it is fetched or written back depends on the tables' contents
/-- Window 3 (operand 5 (%3)) is fetched at the first point only, at any contents of the tables (its index map reads none). -/
theorem fetch0_3 (a : (pcfg0 (F := F)).Adm) : ∀ t : Fin (cfg0 a).N, ((cfg0 a).win 3).fetch t = true ↔ t.val % 63 = 0 :=
  (fun t => Pipeline.Window.fetchOf_const cc0_transform_3 (fun _ _ => rfl) (n := 63) (by decide) t : ∀ t : Fin grid0.N, Pipeline.Window.fetchOf grid0 false cc0_transform_3 t = true ↔ t.val % 63 = 0)
/-- Window 4 (operand 6 (%arg1)) is fetched at the first point only, at any contents of the tables (its index map reads none). -/
theorem fetch0_4 (a : (pcfg0 (F := F)).Adm) : ∀ t : Fin (cfg0 a).N, ((cfg0 a).win 4).fetch t = true ↔ t.val % 63 = 0 :=
  (fun t => Pipeline.Window.fetchOf_const cc0_transform_4 (fun _ _ => rfl) (n := 63) (by decide) t : ∀ t : Fin grid0.N, Pipeline.Window.fetchOf grid0 false cc0_transform_4 t = true ↔ t.val % 63 = 0)
/-- Window 5 (operand 7 (%arg0)) is fetched at the first point only, at any contents of the tables (its index map reads none). -/
theorem fetch0_5 (a : (pcfg0 (F := F)).Adm) : ∀ t : Fin (cfg0 a).N, ((cfg0 a).win 5).fetch t = true ↔ t.val % 63 = 0 :=
  (fun t => Pipeline.Window.fetchOf_const cc0_transform_5 (fun _ _ => rfl) (n := 63) (by decide) t : ∀ t : Fin grid0.N, Pipeline.Window.fetchOf grid0 false cc0_transform_5 t = true ↔ t.val % 63 = 0)
/-- Window 6 (result 0 (%21#0)) is written back at the last point only, at any contents of the tables (its index map reads none). -/
theorem flush0_6 (a : (pcfg0 (F := F)).Adm) : ∀ t : Fin (cfg0 a).N, ((cfg0 a).win 6).flush t = true ↔ t.val % 63 = 62 :=
  (fun t => Pipeline.Window.flushOf_const cc0_transform_6 (fun _ _ => rfl) (n := 63) (by decide) rfl t : ∀ t : Fin grid0.N, Pipeline.Window.flushOf grid0 true cc0_transform_6 t = true ↔ t.val % 63 = 62)
/-- Window 7 (result 1 (%21#1)) is written back at the last point only, at any contents of the tables (its index map reads none). -/
theorem flush0_7 (a : (pcfg0 (F := F)).Adm) : ∀ t : Fin (cfg0 a).N, ((cfg0 a).win 7).flush t = true ↔ t.val % 63 = 62 :=
  (fun t => Pipeline.Window.flushOf_const cc0_transform_7 (fun _ _ => rfl) (n := 63) (by decide) rfl t : ∀ t : Fin grid0.N, Pipeline.Window.flushOf grid0 true cc0_transform_7 t = true ↔ t.val % 63 = 62)
/-- Window 8 (result 2 (%21#2)) is written back at the last point only, at any contents of the tables (its index map reads none). -/
theorem flush0_8 (a : (pcfg0 (F := F)).Adm) : ∀ t : Fin (cfg0 a).N, ((cfg0 a).win 8).flush t = true ↔ t.val % 63 = 62 :=
  (fun t => Pipeline.Window.flushOf_const cc0_transform_8 (fun _ _ => rfl) (n := 63) (by decide) rfl t : ∀ t : Fin grid0.N, Pipeline.Window.flushOf grid0 true cc0_transform_8 t = true ↔ t.val % 63 = 62)

/-- The current staging memref of each window at point `t`: which of its buffers it is on. -/
abbrev st0_0 (a : (pcfg0 (F := F)).Adm) (t : Fin (cfg0 a).N) := ((cfg0 a).win 0).stage ((cfg0 a).slots t 0)
abbrev st0_1 (a : (pcfg0 (F := F)).Adm) (t : Fin (cfg0 a).N) := ((cfg0 a).win 1).stage ((cfg0 a).slots t 1)
abbrev st0_2 (a : (pcfg0 (F := F)).Adm) (t : Fin (cfg0 a).N) := ((cfg0 a).win 2).stage ((cfg0 a).slots t 2)
abbrev st0_3 (a : (pcfg0 (F := F)).Adm) (t : Fin (cfg0 a).N) := ((cfg0 a).win 3).stage ((cfg0 a).slots t 3)
abbrev st0_4 (a : (pcfg0 (F := F)).Adm) (t : Fin (cfg0 a).N) := ((cfg0 a).win 4).stage ((cfg0 a).slots t 4)
abbrev st0_5 (a : (pcfg0 (F := F)).Adm) (t : Fin (cfg0 a).N) := ((cfg0 a).win 5).stage ((cfg0 a).slots t 5)
abbrev st0_6 (a : (pcfg0 (F := F)).Adm) (t : Fin (cfg0 a).N) := ((cfg0 a).win 6).stage ((cfg0 a).slots t 6)
abbrev st0_7 (a : (pcfg0 (F := F)).Adm) (t : Fin (cfg0 a).N) := ((cfg0 a).win 7).stage ((cfg0 a).slots t 7)
abbrev st0_8 (a : (pcfg0 (F := F)).Adm) (t : Fin (cfg0 a).N) := ((cfg0 a).win 8).stage ((cfg0 a).slots t 8)

/-- The kernel body at point `t`, on what the pipeline calls it with (`defs₀`'s row at the slots). -/
abbrev bodyAt0 (a : (pcfg0 (F := F)).Adm) (t : Fin (cfg0 a).N) : Prog (TpuEff nD τ sig (Elt F) Λ₀ .tc) PUnit :=
  cc0_head (grid0.coords t) (Memref.whole main_v16) (Memref.isWhole_whole _) (Memref.whole main_v9) (Memref.isWhole_whole _) (spec0_0.stage ((cfg0 a).slots t 0)) (hstage0_0 (((cfg0 a).slots t 0).cast nbuf0_0)) (spec0_1.stage ((cfg0 a).slots t 1)) (hstage0_1 (((cfg0 a).slots t 1).cast nbuf0_1)) (spec0_2.stage ((cfg0 a).slots t 2)) (hstage0_2 (((cfg0 a).slots t 2).cast nbuf0_2)) (spec0_3.stage ((cfg0 a).slots t 3)) (hstage0_3 (((cfg0 a).slots t 3).cast nbuf0_3)) (spec0_4.stage ((cfg0 a).slots t 4)) (hstage0_4 (((cfg0 a).slots t 4).cast nbuf0_4)) (spec0_5.stage ((cfg0 a).slots t 5)) (hstage0_5 (((cfg0 a).slots t 5).cast nbuf0_5)) (spec0_6.stage ((cfg0 a).slots t 6)) (hstage0_6 (((cfg0 a).slots t 6).cast nbuf0_6)) (spec0_7.stage ((cfg0 a).slots t 7)) (hstage0_7 (((cfg0 a).slots t 7).cast nbuf0_7)) (spec0_8.stage ((cfg0 a).slots t 8)) (hstage0_8 (((cfg0 a).slots t 8).cast nbuf0_8)) (Memref.whole cc0_scratch0) (Memref.isWhole_whole _) (Memref.whole cc0_scratch1) (Memref.isWhole_whole _)

/-! ## @main up to the region -/

/-- Core `c`'s TensorCore buffers when the region is entered: after the host operations `hostOps0`, `hostOps0_1`, `hostOps0_2`, `hostOps0_3`, `hostOps0_4`, `hostOps0_5`. -/
abbrev V (c : Dev nD) (b : Ref sig .tc) : Buf (Elt F) ((c : Thread nD τ).loc b) :=
  StableHlo.after (List.flatten [hostOps0, hostOps0_1, hostOps0_2, hostOps0_3, hostOps0_4, hostOps0_5]) (fun b => m (c, b)) b

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor
theorem hostOps0_5_fresh : (hostOps0_5 : List (HloOp τ sig (Elt F))).Forall fun op => op.fresh = ∅ := by
  simp only [List.Forall]; repeat' constructor

set_option maxHeartbeats 800000 in
/-- @main up to the region, at the certificate's variants `𝒱₀`: the lines of host operations then the region
    (`Pipeline.hmain_prefixes`, off `main_chain`). -/
theorem hmain (𝒱₀ : Variants) : Pipeline.HMainP (Ix := Unit) (Name := ℕ) (U := UR sig nD τ) (Lvl := ℕ) pcfgs 0 defs₀ 𝒱₀ m (main (F := F)) (V m) :=
  Pipeline.hmainP_prefixes pcfgs 0 defs₀ 𝒱₀ m main [hostOps0, hostOps0_1, hostOps0_2, hostOps0_3, hostOps0_4, hostOps0_5] (by simp only [List.Forall]; exact ⟨hostOps0_sub, hostOps0_1_sub, hostOps0_2_sub, hostOps0_3_sub, hostOps0_4_sub, hostOps0_5_sub⟩)
    (by simp only [List.Forall]; exact ⟨hostOps0_fresh, hostOps0_1_fresh, hostOps0_2_fresh, hostOps0_3_fresh, hostOps0_4_fresh, hostOps0_5_fresh⟩) main_chain

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, hostOps0_3, hostOps0_4, hostOps0_5, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, hostOps0_3, hostOps0_4, hostOps0_5, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, hostOps0_3, hostOps0_4, hostOps0_5, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, hostOps0_1, hostOps0_2, hostOps0_3, hostOps0_4, hostOps0_5, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg4`: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, hostOps0_1, hostOps0_2, hostOps0_3, hostOps0_4, hostOps0_5, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg5`: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, hostOps0_1, hostOps0_2, hostOps0_3, hostOps0_4, hostOps0_5, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg6`: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, hostOps0_1, hostOps0_2, hostOps0_3, hostOps0_4, hostOps0_5, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg7`: the region finds it as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, hostOps0_1, hostOps0_2, hostOps0_3, hostOps0_4, hostOps0_5, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg8`: the region finds it as launched. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, hostOps0_1, hostOps0_2, hostOps0_3, hostOps0_4, hostOps0_5, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg9`: the region finds it as launched. -/
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, hostOps0_1, hostOps0_2, hostOps0_3, hostOps0_4, hostOps0_5, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The prefetched tables, read off the launch memory -/

/-- The tables' contents when the region is entered (`V`; the program runs on ONE device: device 0's). -/
def tbl : pre0.Contents (Elt F) := fun j => V m (0 : Dev nD) (pre0.ref j)
/-- On every device the tables hold those contents (there is one device). -/
theorem V_pre (c : Dev nD) (j : Fin 2) : V m c (pre0.ref j) = tbl m j := by
  obtain rfl : c = 0 := Subsingleton.elim _ _; rfl
/-- The pipeline's side condition of the tables' contents: every window whose index map reads a table has its block
    inside the array at every point (the printed `ok0`; `True` when no map reads a table). The frame holds
    under it; Proof.lean proves it from the precondition. -/
abbrev Ok : Prop := ok0 (F := F) (tbl m)
/-- The tables' contents as ADMISSIBLE contents, and the pipeline at them: what the launch theorem runs
    (Lib/Pipeline/Frame.lean `θ_run_frameP`). -/
abbrev adm (hO : Ok m) : (pcfg0 (F := F)).Adm := ⟨tbl m, hO⟩
abbrev cfgM (hO : Ok m) : Pipeline.Cfg sig Λ₀ := cfg0 (adm m hO)

/-- Each table as the body is handed it: its whole buffer as a memref, and that memref's wholeness. -/
abbrev tbM0_0 : Memref sig .tc .smem S63 .i32 := Memref.whole main_v16
abbrev htbM0_0 : tbM0_0.IsWhole := Memref.isWhole_whole _
abbrev tbM0_1 : Memref sig .tc .smem S63 .i32 := Memref.whole main_v9
abbrev htbM0_1 : tbM0_1.IsWhole := Memref.isWhole_whole _

/-- A table memref's buffer on core `c`: its contents type, and it held at HALF the full share at `f` — behind this
    abbreviation, so that the run's rewriting of the goal leaves `Memref.view` intact (the form the executor reads a held
    buffer in); read-only: the pipeline keeps the other half. -/
abbrev TbBuf0 (c : Dev nD) {S : Shape} {e : EltTy} (M : Memref sig .tc .smem S e) : Type := Buf (Elt F) (M.view.loc (c : Thread nD τ))
abbrev tbPt0 (c : Dev nD) {S : Shape} {e : EltTy} (M : Memref sig .tc .smem S e) (f : TbBuf0 (F := F) c M) : sProp 𝕄 :=
  M.view.loc (c : Thread nD τ) ↦{fullShare.right} f

/-- The tables' halves the region hands the body (Lib/Pipeline/Frame.lean `ΦT`), table by table: what the body
    obligation hands the run and takes back. -/
theorem PhiT0_eq (c : Dev nD) : (Pipeline.ΦT pre0 (tbl m) c : sProp 𝕄) = iprop(tbPt0 c tbM0_0 (tbl m 0) ∗ tbPt0 c tbM0_1 (tbl m 1)) := by
  unfold Pipeline.ΦT Pipeline.prefHeld
  rw [show (Finset.univ : Finset (Fin 2)) = insert (0 : Fin 2) {(1 : Fin 2)} from by decide,
    bigSep_insert (by decide), bigSep_singleton]
  rfl

/-! ## The windows' blocks -/

/-- Window `w`'s block at point `t`, read off its array as the region finds it (`V`) — for a window whose index map reads a
    table, a function of the tables' words (`hO`: the pipeline at them). -/
def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of (hO : Ok m) {c : Dev nD} (dat : Dat τ (Elt F) Unit ℕ (UR sig nD τ) ℕ (cfgM m hO) c) (hA : dat.A 0 = V m c (Pipeline.arrRef spec0 0))
    (hafter : ∀ t, dat.after 0 t = iblk m hO c 0 t) (t : Fin (cfgM m hO).N) (d) : dat.before 0 t d = iblk m hO c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of (hO : Ok m) {c : Dev nD} (dat : Dat τ (Elt F) Unit ℕ (UR sig nD τ) ℕ (cfgM m hO) c) (hA : dat.A 1 = V m c (Pipeline.arrRef spec0 1))
    (hafter : ∀ t, dat.after 1 t = iblk m hO c 1 t) (t : Fin (cfgM m hO).N) (d) : dat.before 1 t d = iblk m hO c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of (hO : Ok m) {c : Dev nD} (dat : Dat τ (Elt F) Unit ℕ (UR sig nD τ) ℕ (cfgM m hO) c) (hA : dat.A 2 = V m c (Pipeline.arrRef spec0 2))
    (hafter : ∀ t, dat.after 2 t = iblk m hO c 2 t) (t : Fin (cfgM m hO).N) (d) : dat.before 2 t d = iblk m hO c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of (hO : Ok m) {c : Dev nD} (dat : Dat τ (Elt F) Unit ℕ (UR sig nD τ) ℕ (cfgM m hO) c) (hA : dat.A 3 = V m c (Pipeline.arrRef spec0 3))
    (hafter : ∀ t, dat.after 3 t = iblk m hO c 3 t) (t : Fin (cfgM m hO).N) (d) : dat.before 3 t d = iblk m hO c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_4_of (hO : Ok m) {c : Dev nD} (dat : Dat τ (Elt F) Unit ℕ (UR sig nD τ) ℕ (cfgM m hO) c) (hA : dat.A 4 = V m c (Pipeline.arrRef spec0 4))
    (hafter : ∀ t, dat.after 4 t = iblk m hO c 4 t) (t : Fin (cfgM m hO).N) (d) : dat.before 4 t d = iblk m hO c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_5_of (hO : Ok m) {c : Dev nD} (dat : Dat τ (Elt F) Unit ℕ (UR sig nD τ) ℕ (cfgM m hO) c) (hA : dat.A 5 = V m c (Pipeline.arrRef spec0 5))
    (hafter : ∀ t, dat.after 5 t = iblk m hO c 5 t) (t : Fin (cfgM m hO).N) (d) : dat.before 5 t d = iblk m hO c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- THE FRAME from a frame run: for any proof data whose arrays are the region-entry contents (`hA`), a run to
    Lib/Pipeline/Frame.lean's `RDat.FramePost` read at the argument arrays — a staged input by the library's
    `RDat.FramePost.arr_in`, an array no window stages by the post's second clause, each then by `V_…` — is the frame
    claim's post (`Cert.frame_Kernel`, Defs.lean, at any `F`). -/
theorem frame_of (hO : Ok m) (rdat : (c : Dev nD) → Pipeline.RDat τ (Elt F) Unit ℕ (UR sig nD τ) ℕ ((Pipeline.pin pcfgs fun _ => adm m hO) 0) c)
    (hA : ∀ c w, (rdat c).A w = V m c (Pipeline.arrRef spec0 w))
    (h : θ_run defs (onTc (τ := τ) (main (F := F))) (s₀ m ρ) (Pipeline.RDat.FramePost ((Pipeline.pin pcfgs fun _ => adm m hO) 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun _ h c => ⟨(Pipeline.RDat.FramePost.arr_in h c 5 rfl).trans ((hA c 5).trans (V_main_arg0 m c)),
      (Pipeline.RDat.FramePost.arr_in h c 4 rfl).trans ((hA c 4).trans (V_main_arg1 m c)),
      ((h c).2 main_arg2 (by decide : main_arg2 ∈ Pipeline.restRefs sig spec0)).trans (V_main_arg2 m c),
      ((h c).2 main_arg3 (by decide : main_arg3 ∈ Pipeline.restRefs sig spec0)).trans (V_main_arg3 m c),
      ((h c).2 main_arg4 (by decide : main_arg4 ∈ Pipeline.restRefs sig spec0)).trans (V_main_arg4 m c),
      ((h c).2 main_arg5 (by decide : main_arg5 ∈ Pipeline.restRefs sig spec0)).trans (V_main_arg5 m c),
      ((h c).2 main_arg6 (by decide : main_arg6 ∈ Pipeline.restRefs sig spec0)).trans (V_main_arg6 m c),
      ((h c).2 main_arg7 (by decide : main_arg7 ∈ Pipeline.restRefs sig spec0)).trans (V_main_arg7 m c),
      ((h c).2 main_arg8 (by decide : main_arg8 ∈ Pipeline.restRefs sig spec0)).trans (V_main_arg8 m c),
      ((h c).2 main_arg9 (by decide : main_arg9 ∈ Pipeline.restRefs sig spec0)).trans (V_main_arg9 m c)⟩) h

/-! ## The body's branch conditions -/

/-- The condition of the body's `scf.if` 0 (`k0_h1`), from the grid coordinates (the skeleton's scalar
    chain substituted). -/
abbrev cond0_0 (i : grid0.Coords) : Prop := (Scalar.cmpi .ne (Scalar.extui (Scalar.cmpi .eq (BitVec.ofNat 32 (i 0).val) 0#32)) 0#32) = 1#1
/-- It holds at the first point only — by arithmetic of the point. -/
theorem hcond0_0 : ∀ t : Fin grid0.N, cond0_0 (grid0.coords t) ↔ t.val % 63 = 0 :=
  (fun t => by
    have ht : t.val < 63 := Nat.lt_of_lt_of_eq t.isLt N_0
    have e0 : (grid0.coords t 0).val = t.val / 1 % 63 := Pipeline.Grid.coords_val t 0 (by decide) rfl
    simp only [cond0_0, e0]
    word_cmp
   : ∀ t : Fin grid0.N, cond0_0 (grid0.coords t) ↔ t.val % 63 = 0)

/-- The condition of the body's `scf.if` 1: over WORDS the body reads from its tables or input SMEM windows
    (`v4`), so no function of the point — a case variable: a hypothesis of each run, a `by_cases`
    of the obligation and an `if` of `outsAt`, stated over the argument blocks' words there. -/
abbrev cond0_1 (i : grid0.Coords) (v4 : BitVec 32) : Prop := (Scalar.cmpi .ne (Scalar.extui (Scalar.cmpi .eq v4 0#32)) 0#32) = 1#1

/-- The condition of the body's `scf.if` 2: over WORDS the body reads from its tables or input SMEM windows
    (`v9`), so no function of the point — a case variable: a hypothesis of each run, a `by_cases`
    of the obligation and an `if` of `outsAt`, stated over the argument blocks' words there. -/
abbrev cond0_2 (i : grid0.Coords) (v9 : BitVec 32) : Prop := (Scalar.cmpi .ne (Scalar.extui (Scalar.cmpi .ne v9 0#32)) 0#32) = 1#1

/-- The condition of the body's `scf.if` 3 (`k0_h4`), from the grid coordinates (the skeleton's scalar
    chain substituted). -/
abbrev cond0_3 (i : grid0.Coords) : Prop := k0_cond4 i = 1#1
/-- It holds at the last point only — by arithmetic of the point. -/
theorem hcond0_3 : ∀ t : Fin grid0.N, cond0_3 (grid0.coords t) ↔ t.val % 63 = 62 :=
  (fun t => by
    have ht : t.val < 63 := Nat.lt_of_lt_of_eq t.isLt N_0
    have e0 : (grid0.coords t 0).val = t.val / 1 % 63 := Pipeline.Grid.coords_val t 0 (by decide) rfl
    simp only [cond0_3, k0_cond4, e0]
    word_cmp
   : ∀ t : Fin grid0.N, cond0_3 (grid0.coords t) ↔ t.val % 63 = 62)

/-! ## Where the windows are idle (the printed configuration's table `Cfg.idle`) -/

/-- Window 0 is never idle (an input). -/
theorem liveAt0_0 (hO : Ok m) : ∀ t : Fin (cfgM m hO).N, (cfgM m hO).idle 0 (grid0.coords t) = false :=
  (fun _ => rfl : ∀ t : Fin grid0.N, idle0 0 (grid0.coords t) = false)
/-- Window 1 is never idle (an input). -/
theorem liveAt0_1 (hO : Ok m) : ∀ t : Fin (cfgM m hO).N, (cfgM m hO).idle 1 (grid0.coords t) = false :=
  (fun _ => rfl : ∀ t : Fin grid0.N, idle0 1 (grid0.coords t) = false)
/-- Window 2 is never idle (an input). -/
theorem liveAt0_2 (hO : Ok m) : ∀ t : Fin (cfgM m hO).N, (cfgM m hO).idle 2 (grid0.coords t) = false :=
  (fun _ => rfl : ∀ t : Fin grid0.N, idle0 2 (grid0.coords t) = false)
/-- Window 3 is never idle (an input). -/
theorem liveAt0_3 (hO : Ok m) : ∀ t : Fin (cfgM m hO).N, (cfgM m hO).idle 3 (grid0.coords t) = false :=
  (fun _ => rfl : ∀ t : Fin grid0.N, idle0 3 (grid0.coords t) = false)
/-- Window 4 is never idle (an input). -/
theorem liveAt0_4 (hO : Ok m) : ∀ t : Fin (cfgM m hO).N, (cfgM m hO).idle 4 (grid0.coords t) = false :=
  (fun _ => rfl : ∀ t : Fin grid0.N, idle0 4 (grid0.coords t) = false)
/-- Window 5 is never idle (an input). -/
theorem liveAt0_5 (hO : Ok m) : ∀ t : Fin (cfgM m hO).N, (cfgM m hO).idle 5 (grid0.coords t) = false :=
  (fun _ => rfl : ∀ t : Fin grid0.N, idle0 5 (grid0.coords t) = false)
/-! ## The kernel body on any staging memrefs: a subtype the run finds -/

/-- Each window's current staging memref at point `t`, spelled as the pipeline passes it (`bodyAt0`), and its wholeness. -/
abbrev ms0_0 (hO : Ok m) (t : Fin (cfgM m hO).N) : Memref sig .tc .vmem S512x8192 .fp8e4m3 := spec0_0.stage ((cfgM m hO).slots t 0)
abbrev hs0_0 (hO : Ok m) (t : Fin (cfgM m hO).N) : (ms0_0 m hO t).IsWhole := hstage0_0 (((cfgM m hO).slots t 0).cast nbuf0_0)
abbrev ms0_1 (hO : Ok m) (t : Fin (cfgM m hO).N) : Memref sig .tc .vmem S1x512 .f32 := spec0_1.stage ((cfgM m hO).slots t 1)
abbrev hs0_1 (hO : Ok m) (t : Fin (cfgM m hO).N) : (ms0_1 m hO t).IsWhole := hstage0_1 (((cfgM m hO).slots t 1).cast nbuf0_1)
abbrev ms0_2 (hO : Ok m) (t : Fin (cfgM m hO).N) : Memref sig .tc .vmem S2688x128 .i32 := spec0_2.stage ((cfgM m hO).slots t 2)
abbrev hs0_2 (hO : Ok m) (t : Fin (cfgM m hO).N) : (ms0_2 m hO t).IsWhole := hstage0_2 (((cfgM m hO).slots t 2).cast nbuf0_2)
abbrev ms0_3 (hO : Ok m) (t : Fin (cfgM m hO).N) : Memref sig .tc .vmem S2688x1 .i32 := spec0_3.stage ((cfgM m hO).slots t 3)
abbrev hs0_3 (hO : Ok m) (t : Fin (cfgM m hO).N) : (ms0_3 m hO t).IsWhole := hstage0_3 (((cfgM m hO).slots t 3).cast nbuf0_3)
abbrev ms0_4 (hO : Ok m) (t : Fin (cfgM m hO).N) : Memref sig .tc .vmem S2688x1 .f32 := spec0_4.stage ((cfgM m hO).slots t 4)
abbrev hs0_4 (hO : Ok m) (t : Fin (cfgM m hO).N) : (ms0_4 m hO t).IsWhole := hstage0_4 (((cfgM m hO).slots t 4).cast nbuf0_4)
abbrev ms0_5 (hO : Ok m) (t : Fin (cfgM m hO).N) : Memref sig .tc .vmem S2688x8192 .fp8e4m3 := spec0_5.stage ((cfgM m hO).slots t 5)
abbrev hs0_5 (hO : Ok m) (t : Fin (cfgM m hO).N) : (ms0_5 m hO t).IsWhole := hstage0_5 (((cfgM m hO).slots t 5).cast nbuf0_5)
abbrev ms0_6 (hO : Ok m) (t : Fin (cfgM m hO).N) : Memref sig .tc .vmem S1x2688 .f32 := spec0_6.stage ((cfgM m hO).slots t 6)
abbrev hs0_6 (hO : Ok m) (t : Fin (cfgM m hO).N) : (ms0_6 m hO t).IsWhole := hstage0_6 (((cfgM m hO).slots t 6).cast nbuf0_6)
abbrev ms0_7 (hO : Ok m) (t : Fin (cfgM m hO).N) : Memref sig .tc .vmem S1x2688 .f32 := spec0_7.stage ((cfgM m hO).slots t 7)
abbrev hs0_7 (hO : Ok m) (t : Fin (cfgM m hO).N) : (ms0_7 m hO t).IsWhole := hstage0_7 (((cfgM m hO).slots t 7).cast nbuf0_7)
abbrev ms0_8 (hO : Ok m) (t : Fin (cfgM m hO).N) : Memref sig .tc .vmem S63x2688 .f32 := spec0_8.stage ((cfgM m hO).slots t 8)
abbrev hs0_8 (hO : Ok m) (t : Fin (cfgM m hO).N) : (ms0_8 m hO t).IsWhole := hstage0_8 (((cfgM m hO).slots t 8).cast nbuf0_8)
/-- The scratch operands: whole scoped buffers of the kernel's own, passed beside the windows. -/
abbrev scM0_0 : Memref sig .tc .vmem S64x2688 .f32 := Memref.whole cc0_scratch0
abbrev scM0_1 : Memref sig .tc .vmem S1x2688 .f32 := Memref.whole cc0_scratch1
/-- The scratch `arg13` the kernel carries between points, as a view: what it holds is stated through it. -/
abbrev VS0_1 : View sig .tc .vmem S1x2688 .f32 := scM0_1.view

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

end Cert.KernelIdeal.Hand

end
-- ==== Proof.Hand.Tile.lean ====
/- The body of the head kernel, restated with one program for a tile of 448 rows used at each of the six tiles. -/
module

public import proofs.«01_k».proof.Proof.Gen.KernelIdeal
public import proofs.«01_k».proof.Proof.Gen.KernelIdeal.Skeleton

@[expose] public section

set_option synthInstance.maxSize 4096

noncomputable section

namespace Cert.KernelIdeal.Hand

open Idealize.ShloMosaic Idealize.SL.Sem
open Facts₀ Facts

variable {F : FTy → Type} [FloatOps F]

/-- The column of each element: the iota along a chunk of 128 columns. -/
def laneV : IVec S448x128 32 := iota .tc S448x128 32 [1] iota_S448x128_d1_w32

/-- The number of a block within its group of eight, times sixteen, plus four per chunk. -/
def wordBase (arg0 cc : BitVec 32) : BitVec 32 :=
  let v28 : BitVec 32 := Scalar.select (Scalar.cmpi .eq 8#32 0#32) 1#32 8#32
  let v29 : BitVec 32 := Scalar.remsi arg0 v28
  let v34 : BitVec 1 := Scalar.andi (Scalar.xori (Scalar.cmpi .slt v29 0#32) (Scalar.cmpi .slt v28 0#32)) (Scalar.cmpi .ne v29 0#32)
  Scalar.addi (Scalar.muli (Scalar.select v34 (Scalar.addi v29 v28) v29) 16#32) cc

/-- The lane divided by 32, rounding towards minus infinity. -/
def laneDiv : IVec S448x128 32 :=
  have v40 : IVec S448x128 32 := divsi laneV (broadcast S448x128 32#32)
  have v47 : IVec S448x128 32 := subi (extui 32 (cmpi .sgt laneV (broadcast S448x128 0#32)) natLt_1_32)
    (extui 32 (cmpi .slt laneV (broadcast S448x128 0#32)) natLt_1_32)
  have v54 : IVec S448x128 1 := cmpi .ne v47 (broadcast S448x128 (Scalar.subi (Scalar.extui (Scalar.cmpi .sgt 32#32 0#32)) (Scalar.extui (Scalar.cmpi .slt 32#32 0#32))))
  have v58 : IVec S448x128 1 := cmpi .ne (remsi laneV (broadcast S448x128 32#32)) (broadcast S448x128 0#32)
  select (andi v54 v58) (subi v40 (broadcast S448x128 1#32)) v40

/-- The lane modulo 32. -/
def laneMod : IVec S448x128 32 :=
  have v78 : BitVec 32 := Scalar.select (Scalar.cmpi .eq 32#32 0#32) 1#32 32#32
  have v80 : IVec S448x128 32 := remsi laneV (broadcast S448x128 v78)
  have v88 : IVec S448x128 1 := xori (cmpi .slt v80 (broadcast S448x128 0#32))
    (broadcastTo S448x128 (broadcast S448x128 (Scalar.cmpi .slt v78 0#32)) broadcasts_S448x128_S448x128)
  select (andi v88 (cmpi .ne v80 (broadcast S448x128 0#32))) (addi v80 (broadcast S448x128 v78)) v80

/-- The mask bit of each row and column of a chunk, as the word 0 or 1. -/
def bitV (arg0 cc : BitVec 32) (mt : IVec S448x128 32) : IVec S448x128 32 :=
  have v64 : IVec S448x128 32 := addi (broadcast S448x128 (wordBase arg0 cc)) laneDiv
  have v69 : IVec S448x128 32 := select (cmpi .slt v64 (broadcast S448x128 0#32)) (addi v64 (broadcast S448x128 128#32)) v64
  have v71 : IVec S448x128 32 := shapeCast S448x128 (shapeCast S448x128x1 v69 shapeCasts_S448x128_S448x128x1) shapeCasts_S448x128x1_S448x128
  andi (shrsi (dynamicGather 1 (shapeCast S448x128 mt shapeCasts_S448x128_S448x128) v71) laneMod) (broadcast S448x128 1#32)

/-- The token number of each column of a chunk. -/
def tokV (arg0 oc : BitVec 32) : IVec S448x128 32 :=
  addi (broadcast S448x128 (Scalar.addi (Scalar.muli arg0 512#32) oc)) laneV

/-- Which entries of a chunk are kept: the mask bit is set and the token exists. -/
def okV (arg0 cc oc : BitVec 32) (mt : IVec S448x128 32) : IVec S448x128 1 :=
  andi (cmpi .eq (bitV arg0 cc mt) (broadcast S448x128 1#32)) (cmpi .slt (tokV arg0 oc) (broadcast S448x128 32000#32))

/-- Minus infinity, everywhere. -/
def negV (s : Shape) : FVec F s .f32 := broadcast s (Scalar.ofBits .f32 0xFF800000#32)

/-- The products of a tile with the block of the vocabulary. -/
def prodV (codes : FVec F S448x8192 .fp8e4m3) (w : FVec F S512x8192 .fp8e4m3) : FVec F S448x512 .f32 :=
  matmul dot_S448x8192_S512x8192_S448x512_1_1_0_0_n_n none codes (shapeCast S512x8192 w shapeCasts_S512x8192_S512x8192)
    (constant S448x512 .f32 0x00000000#32)

/-- The masked logits of one chunk of 128 columns at offset `o` of the block. -/
def chunkV (arg0 cc oc : BitVec 32) (o : Nat) (ho : S448x512.Slices ![0, o] S448x128) (p : FVec F S448x512 .f32)
    (xs : FVec F S448x1 .f32) (mt : IVec S448x128 32) (ws : FVec F S1x128 .f32) : FVec F S448x128 .f32 :=
  select (okV arg0 cc oc mt)
    (mulf (mulf (extractStridedSlice S448x128 ![0, o] p ho) (broadcastTo S448x128 xs broadcasts_S448x1_S448x128))
      (broadcastTo S448x128 (shapeCast S1x128 ws shapeCasts_S1x128_S1x128) broadcasts_S1x128_S448x128))
    (negV S448x128)

/-- The row maxima of a chunk. -/
def rowMax (v : FVec F S448x128 .f32) : FVec F S448x1 .f32 :=
  shapeCast S448x1 (multiReduction .maximumf [1] S448 v 0xFF800000#32 reduces_S448x128_S448 (.inl rfl) rfl) shapeCasts_S448_S448x1

/-- The target logit of a chunk: the masked logit in the column of the target, or minus infinity. -/
def tgtV (arg0 oc : BitVec 32) (tg : IVec S448x1 32) (v : FVec F S448x128 .f32) : FVec F S448x1 .f32 :=
  rowMax (select (cmpi .eq (tokV arg0 oc)
    (broadcastTo S448x128 (shapeCast S448x1 tg shapeCasts_S448x1_S448x1) broadcasts_S448x1_S448x128)) v (negV S448x128))

/-- The shift of a row: its maximum over the block, or zero when that is minus infinity. -/
def shiftV (a b c d : FVec F S448x128 .f32) : FVec F S448x1 .f32 :=
  have m : FVec F S448x1 .f32 := rowMax (maximumf (maximumf a b) (maximumf c d))
  select (cmpf .ogt m (negV S448x1)) m (broadcast S448x1 (Scalar.ofBits .f32 0x00000000#32))

/-- The exponential of a chunk against the row shift. -/
def expV (s : FVec F S448x1 .f32) (a : FVec F S448x128 .f32) : FVec F S448x128 .f32 :=
  exp (subf a (broadcastTo S448x128 s broadcasts_S448x1_S448x128))

/-- The log of the sum of the exponentials of the row over the block. -/
def lseV (a b c d : FVec F S448x128 .f32) : FVec F S448x1 .f32 :=
  have s : FVec F S448x1 .f32 := shiftV a b c d
  have v : FVec F S448x128 .f32 := addf (addf (addf (expV s a) (expV s b)) (expV s c)) (expV s d)
  addf s (log (shapeCast S448x1 (multiReduction .add [1] S448 v 0x00000000#32 reduces_S448x128_S448 (.inl rfl) rfl) shapeCasts_S448_S448x1))

/-- The two columns of results side by side in lane 0 and the other lanes, transposed. -/
def bothV (l t : FVec F S448x1 .f32) : FVec F S128x448 .f32 :=
  transpose S128x448 [1, 0]
    (select (cmpi .eq laneV (broadcast S448x128 0#32))
      (broadcastTo S448x128 (shapeCast S448x1 l shapeCasts_S448x1_S448x1) broadcasts_S448x1_S448x128)
      (broadcastTo S448x128 (shapeCast S448x1 t shapeCasts_S448x1_S448x1) broadcasts_S448x1_S448x128))
    transposes_S448x128_p1_0_S128x448

/-- The results of a tile for one block of the vocabulary: log-sum-exp in row 0, target logit in row 1. -/
def tileV (arg0 : BitVec 32) (codes : FVec F S448x8192 .fp8e4m3) (w : FVec F S512x8192 .fp8e4m3) (xs : FVec F S448x1 .f32)
    (tg : IVec S448x1 32) (mt : IVec S448x128 32) (w0 w1 w2 w3 : FVec F S1x128 .f32) : FVec F S128x448 .f32 :=
  have a := chunkV arg0 0#32 0#32 0 slices_S448x512_o0_0_S448x128 (prodV codes w) xs mt w0
  have b := chunkV arg0 4#32 128#32 128 slices_S448x512_o0_128_S448x128 (prodV codes w) xs mt w1
  have c := chunkV arg0 8#32 256#32 256 slices_S448x512_o0_256_S448x128 (prodV codes w) xs mt w2
  have d := chunkV arg0 12#32 384#32 384 slices_S448x512_o0_384_S448x128 (prodV codes w) xs mt w3
  have t := maximumf (maximumf (maximumf (maximumf (negV S448x1) (tgtV arg0 0#32 tg a)) (tgtV arg0 128#32 tg b)) (tgtV arg0 256#32 tg c)) (tgtV arg0 384#32 tg d)
  bothV (lseV a b c d) t

/-- The row of log-sum-exps of a tile. -/
def rowV (b : FVec F S128x448 .f32) : FVec F S1x448 .f32 :=
  shapeCast S1x448 (extractStridedSlice S1x448 ![0, 0] b slices_S128x448_o0_0_S1x448) shapeCasts_S1x448_S1x448

/-- The row of target logits of a tile, maximised with what was there. -/
def rowT (b : FVec F S128x448 .f32) (old : FVec F S1x448 .f32) : FVec F S1x448 .f32 :=
  shapeCast S1x448 (maximumf old (extractStridedSlice S1x448 ![1, 0] b slices_S128x448_o1_0_S1x448)) shapeCasts_S1x448_S1x448

/-- The start of the row of a block in the scratch array, at column `o`. -/
def rowOff (i : grid0.Coords) (o : Nat) : Fin 2 → Nat := ![(Scalar.indexCast (BitVec.ofNat 32 (i 0).val)).toNat, o]

theorem rowOff_inb (i : grid0.Coords) (o : Nat) (ho : o + 448 ≤ 2688) : ∀ a, rowOff i o a + S1x448.size a ≤ S64x2688.size a := by
  intro a
  fin_cases a
  · exact k0_off4_inb i 0
  · exact ho

variable (i : grid0.Coords) (arg2 : Memref sig .tc .smem S63 .i32)
  (arg3 : Memref sig .tc .vmem S512x8192 .fp8e4m3) (arg4 : Memref sig .tc .vmem S1x512 .f32)
  (arg5 : Memref sig .tc .vmem S2688x128 .i32) (arg6 : Memref sig .tc .vmem S2688x1 .i32)
  (arg7 : Memref sig .tc .vmem S2688x1 .f32) (arg8 : Memref sig .tc .vmem S2688x8192 .fp8e4m3)
  (arg9 : Memref sig .tc .vmem S1x2688 .f32) (arg10 : Memref sig .tc .vmem S1x2688 .f32)
  (arg11 : Memref sig .tc .vmem S63x2688 .f32) (arg12 : Memref sig .tc .vmem S64x2688 .f32)
  (arg13 : Memref sig .tc .vmem S1x2688 .f32)

theorem inb_codes (o : Nat) (ho : o + 448 ≤ 2688) : ∀ a, (![o, 0] : Fin 2 → Nat) a + S448x8192.size a ≤ S2688x8192.size a := by
  intro a; fin_cases a
  · exact ho
  · exact le_refl 8192
theorem inb_col (o : Nat) (ho : o + 448 ≤ 2688) : ∀ a, (![o, 0] : Fin 2 → Nat) a + S448x1.size a ≤ S2688x1.size a := by
  intro a; fin_cases a
  · exact ho
  · exact le_refl 1
theorem inb_mask (o : Nat) (ho : o + 448 ≤ 2688) : ∀ a, (![o, 0] : Fin 2 → Nat) a + S448x128.size a ≤ S2688x128.size a := by
  intro a; fin_cases a
  · exact ho
  · exact le_refl 128
theorem inb_row (o : Nat) (ho : o + 448 ≤ 2688) : ∀ a, (![0, o] : Fin 2 → Nat) a + S1x448.size a ≤ S1x2688.size a := by
  intro a; fin_cases a
  · exact le_refl 1
  · exact ho

/-- The work of an active block on the tile of 448 rows starting at row `o`. -/
def tileProg (o : Nat) (ho : o + 448 ≤ 2688) : Prog (TpuEff nD τ sig (Elt F) Λ₀ .tc) PUnit := do
  let codes : Vec F S448x8192 .fp8e4m3 ← Prog.lift (.load arg8 (Rect.unit (s := S2688x8192) ![o, 0] S448x8192.size (inb_codes o ho)).toLoadRect (View.loadsAt_vmem h_S448x8192))
  let w : Vec F S512x8192 .fp8e4m3 ← Prog.lift (.load arg3 (Rect.unit (s := S512x8192) ![0, 0] S512x8192.size inb_S512x8192_S512x8192_0_0).toLoadRect (View.loadsAt_vmem h_S512x8192))
  let xs : Vec F S448x1 .f32 ← Prog.lift (.load arg7 (Rect.unit (s := S2688x1) ![o, 0] S448x1.size (inb_col o ho)).toLoadRect (View.loadsAt_vmem h_S448x1))
  let tg : Vec F S448x1 .i32 ← Prog.lift (.load arg6 (Rect.unit (s := S2688x1) ![o, 0] S448x1.size (inb_col o ho)).toLoadRect (View.loadsAt_vmem h_S448x1))
  let mt : Vec F S448x128 .i32 ← Prog.lift (.load arg5 (Rect.unit (s := S2688x128) ![o, 0] S448x128.size (inb_mask o ho)).toLoadRect (View.loadsAt_vmem h_S448x128))
  let w0 : Vec F S1x128 .f32 ← Prog.lift (.load arg4 (Rect.unit (s := S1x512) ![0, 0] S1x128.size inb_S1x512_S1x128_0_0).toLoadRect (View.loadsAt_vmem h_S1x128))
  let w1 : Vec F S1x128 .f32 ← Prog.lift (.load arg4 (Rect.unit (s := S1x512) ![0, 128] S1x128.size inb_S1x512_S1x128_0_128).toLoadRect (View.loadsAt_vmem h_S1x128))
  let w2 : Vec F S1x128 .f32 ← Prog.lift (.load arg4 (Rect.unit (s := S1x512) ![0, 256] S1x128.size inb_S1x512_S1x128_0_256).toLoadRect (View.loadsAt_vmem h_S1x128))
  let w3 : Vec F S1x128 .f32 ← Prog.lift (.load arg4 (Rect.unit (s := S1x512) ![0, 384] S1x128.size inb_S1x512_S1x128_0_384).toLoadRect (View.loadsAt_vmem h_S1x128))
  let _r : Vec F S1x448 .f32 ← Prog.lift (.load arg12 (Rect.unit (s := S64x2688) (rowOff i o) S1x448.size (rowOff_inb i o ho)).toLoadRect (View.loadsAt_vmem h_S1x448))
  Prog.lift (.store arg12 (Rect.unit (s := S64x2688) (rowOff i o) S1x448.size (rowOff_inb i o ho)) (rowV (tileV (BitVec.ofNat 32 (i 0).val) codes w xs tg mt w0 w1 w2 w3)) Finset.univ (View.stores_vmem_bits_univ h_S1x448 rfl) (.inl rfl))
  let old : Vec F S1x448 .f32 ← Prog.lift (.load arg13 (Rect.unit (s := S1x2688) ![0, o] S1x448.size (inb_row o ho)).toLoadRect (View.loadsAt_vmem h_S1x448))
  let _r2 : Vec F S1x448 .f32 ← Prog.lift (.load arg13 (Rect.unit (s := S1x2688) ![0, o] S1x448.size (inb_row o ho)).toLoadRect (View.loadsAt_vmem h_S1x448))
  Prog.lift (.store arg13 (Rect.unit (s := S1x2688) ![0, o] S1x448.size (inb_row o ho)) (rowT (tileV (BitVec.ofNat 32 (i 0).val) codes w xs tg mt w0 w1 w2 w3) old) Finset.univ (View.stores_vmem_bits_univ h_S1x448 rfl) (.inl rfl))

/-- The work of an active block: the six tiles in order. -/
def activeProg : Prog (TpuEff nD τ sig (Elt F) Λ₀ .tc) PUnit := do
  tileProg (F := F) i arg3 arg4 arg5 arg6 arg7 arg8 arg12 arg13 0 (by decide)
  tileProg (F := F) i arg3 arg4 arg5 arg6 arg7 arg8 arg12 arg13 448 (by decide)
  tileProg (F := F) i arg3 arg4 arg5 arg6 arg7 arg8 arg12 arg13 896 (by decide)
  tileProg (F := F) i arg3 arg4 arg5 arg6 arg7 arg8 arg12 arg13 1344 (by decide)
  tileProg (F := F) i arg3 arg4 arg5 arg6 arg7 arg8 arg12 arg13 1792 (by decide)
  tileProg (F := F) i arg3 arg4 arg5 arg6 arg7 arg8 arg12 arg13 2240 (by decide)

/-- The start of the body: the first point fills the target logits with the lowest value. -/
def initProg (i : grid0.Coords) (arg13 : Memref sig .tc .vmem S1x2688 .f32) : Prog (TpuEff nD τ sig (Elt F) Λ₀ .tc) PUnit := do
  let arg0 : BitVec 32 := BitVec.ofNat 32 (i 0).val
  let v0 : BitVec 1 := Scalar.cmpi .eq arg0 0#32
  let v1 : BitVec 32 := Scalar.extui v0
  let v2 : BitVec 1 := Scalar.cmpi .ne v1 0#32
  if k0_h1 : v2 = 1#1 then do
    let v17 : Vec F S1x2688 .f32 ← Prog.lift (.load arg13 (Rect.unit (s := S1x2688) ![0, 0] S1x2688.size inb_S1x2688_S1x2688_0_0).toLoadRect (View.loadsAt_vmem h_S1x2688))
    Prog.lift (.store arg13 (Rect.unit (s := S1x2688) ![0, 0] S1x2688.size inb_S1x2688_S1x2688_0_0) (Gen.k0_pay1 (F := F)) Finset.univ (View.stores_vmem_bits_univ h_S1x2688 rfl) (.inl rfl))
    pure ⟨⟩
  else do
    pure ⟨⟩

/-- The branch of a block without legal words: its row of log-sum-exps is the lowest value. -/
def deadProg (i : grid0.Coords) (v4 : BitVec 32) (arg12 : Memref sig .tc .vmem S64x2688 .f32) : Prog (TpuEff nD τ sig (Elt F) Λ₀ .tc) PUnit := do
  let v5 : BitVec 1 := Scalar.cmpi .eq v4 0#32
  let v6 : BitVec 32 := Scalar.extui v5
  let v7 : BitVec 1 := Scalar.cmpi .ne v6 0#32
  if v7 = 1#1 then do
    let v18 : Vec F S1x2688 .f32 ← Prog.lift (.load arg12 (Rect.unit (s := S64x2688) (k0_off2 i) S1x2688.size (k0_off2_inb i)).toLoadRect (View.loadsAt_vmem h_S1x2688))
    Prog.lift (.store arg12 (Rect.unit (s := S64x2688) (k0_off2 i) S1x2688.size (k0_off2_inb i)) (Gen.k0_pay2 (F := F)) Finset.univ (View.stores_vmem_bits_univ h_S1x2688 rfl) (.inl rfl))
    pure ⟨⟩
  else do
    pure ⟨⟩

/-- The branch of a block with legal words. -/
def liveProg (i : grid0.Coords) (v9 : BitVec 32) (arg3 : Memref sig .tc .vmem S512x8192 .fp8e4m3) (arg4 : Memref sig .tc .vmem S1x512 .f32) (arg5 : Memref sig .tc .vmem S2688x128 .i32) (arg6 : Memref sig .tc .vmem S2688x1 .i32) (arg7 : Memref sig .tc .vmem S2688x1 .f32) (arg8 : Memref sig .tc .vmem S2688x8192 .fp8e4m3) (arg12 : Memref sig .tc .vmem S64x2688 .f32) (arg13 : Memref sig .tc .vmem S1x2688 .f32) : Prog (TpuEff nD τ sig (Elt F) Λ₀ .tc) PUnit := do
  let v10 : BitVec 1 := Scalar.cmpi .ne v9 0#32
  let v11 : BitVec 32 := Scalar.extui v10
  let v12 : BitVec 1 := Scalar.cmpi .ne v11 0#32
  if v12 = 1#1 then do
    activeProg (F := F) i arg3 arg4 arg5 arg6 arg7 arg8 arg12 arg13
    pure ⟨⟩
  else do
    pure ⟨⟩

/-- The end of the body: the last point writes the three results. -/
def lastProg (i : grid0.Coords) (arg9 : Memref sig .tc .vmem S1x2688 .f32) (arg10 : Memref sig .tc .vmem S1x2688 .f32) (arg11 : Memref sig .tc .vmem S63x2688 .f32) (arg12 : Memref sig .tc .vmem S64x2688 .f32) (arg13 : Memref sig .tc .vmem S1x2688 .f32) : Prog (TpuEff nD τ sig (Elt F) Λ₀ .tc) PUnit := do
  if k0_h4 : k0_cond4 i = 1#1 then do
    let v16 : Vec F S63x2688 .f32 ← Prog.lift (.load arg12 (Rect.unit (s := S64x2688) ![0, 0] S63x2688.size inb_S64x2688_S63x2688_0_0).toLoadRect (View.loadsAt_vmem h_S63x2688))
    let v26 : Vec F S1x2688 .f32 ← Prog.lift (.load arg13 (Rect.unit (s := S1x2688) ![0, 0] S1x2688.size inb_S1x2688_S1x2688_0_0).toLoadRect (View.loadsAt_vmem h_S1x2688))
    let v27 : Vec F S1x2688 .f32 ← Prog.lift (.load arg9 (Rect.unit (s := S1x2688) ![0, 0] S1x2688.size inb_S1x2688_S1x2688_0_0).toLoadRect (View.loadsAt_vmem h_S1x2688))
    Prog.lift (.store arg9 (Rect.unit (s := S1x2688) ![0, 0] S1x2688.size inb_S1x2688_S1x2688_0_0) (Gen.k0_pay5 v16) Finset.univ (View.stores_vmem_bits_univ h_S1x2688 rfl) (.inl rfl))
    let v33 : Vec F S1x2688 .f32 ← Prog.lift (.load arg10 (Rect.unit (s := S1x2688) ![0, 0] S1x2688.size inb_S1x2688_S1x2688_0_0).toLoadRect (View.loadsAt_vmem h_S1x2688))
    Prog.lift (.store arg10 (Rect.unit (s := S1x2688) ![0, 0] S1x2688.size inb_S1x2688_S1x2688_0_0) (Gen.k0_pay6 v16 v26) Finset.univ (View.stores_vmem_bits_univ h_S1x2688 rfl) (.inl rfl))
    let v38 : Vec F S63x2688 .f32 ← Prog.lift (.load arg11 (Rect.unit (s := S63x2688) ![0, 0] S63x2688.size inb_S63x2688_S63x2688_0_0).toLoadRect (View.loadsAt_vmem h_S63x2688))
    Prog.lift (.store arg11 (Rect.unit (s := S63x2688) ![0, 0] S63x2688.size inb_S63x2688_S63x2688_0_0) (Gen.k0_pay7 v16) Finset.univ (View.stores_vmem_bits_univ h_S63x2688 rfl) (.inl rfl))
    pure ⟨⟩
  else do
    pure ⟨⟩

/-- The body of the head kernel over the tile program. -/
def bodyFlat (i : grid0.Coords) (arg1 : Memref sig .tc .smem S63 .i32) (harg1 : arg1.IsWhole) (arg2 : Memref sig .tc .smem S63 .i32) (harg2 : arg2.IsWhole) (arg3 : Memref sig .tc .vmem S512x8192 .fp8e4m3) (harg3 : arg3.IsWhole) (arg4 : Memref sig .tc .vmem S1x512 .f32) (harg4 : arg4.IsWhole) (arg5 : Memref sig .tc .vmem S2688x128 .i32) (harg5 : arg5.IsWhole) (arg6 : Memref sig .tc .vmem S2688x1 .i32) (harg6 : arg6.IsWhole) (arg7 : Memref sig .tc .vmem S2688x1 .f32) (harg7 : arg7.IsWhole) (arg8 : Memref sig .tc .vmem S2688x8192 .fp8e4m3) (harg8 : arg8.IsWhole) (arg9 : Memref sig .tc .vmem S1x2688 .f32) (harg9 : arg9.IsWhole) (arg10 : Memref sig .tc .vmem S1x2688 .f32) (harg10 : arg10.IsWhole) (arg11 : Memref sig .tc .vmem S63x2688 .f32) (harg11 : arg11.IsWhole) (arg12 : Memref sig .tc .vmem S64x2688 .f32) (harg12 : arg12.IsWhole) (arg13 : Memref sig .tc .vmem S1x2688 .f32) (harg13 : arg13.IsWhole) :
    Prog (TpuEff nD τ sig (Elt F) Λ₀ .tc) PUnit := do
  let arg0 : BitVec 32 := BitVec.ofNat 32 (i 0).val
  let v0 : BitVec 1 := Scalar.cmpi .eq arg0 0#32
  let v1 : BitVec 32 := Scalar.extui v0
  let v2 : BitVec 1 := Scalar.cmpi .ne v1 0#32
  if k0_h1 : v2 = 1#1 then do
    let v17 : Vec F S1x2688 .f32 ← Prog.lift (.load arg13 (Rect.unit (s := S1x2688) ![0, 0] S1x2688.size inb_S1x2688_S1x2688_0_0).toLoadRect (View.loadsAt_vmem h_S1x2688))
    Prog.lift (.store arg13 (Rect.unit (s := S1x2688) ![0, 0] S1x2688.size inb_S1x2688_S1x2688_0_0) (Gen.k0_pay1 (F := F)) Finset.univ (View.stores_vmem_bits_univ h_S1x2688 rfl) (.inl rfl))
    pure ⟨⟩
  else do
    pure ⟨⟩
  let v4 : Elt F .i32 ← smemLoad arg2 (Rect.unit (s := S63) (k0_off1 i) S1.size (k0_off1_inb i)) numel1_S1 rfl
  let v5 : BitVec 1 := Scalar.cmpi .eq v4 0#32
  let v6 : BitVec 32 := Scalar.extui v5
  let v7 : BitVec 1 := Scalar.cmpi .ne v6 0#32
  if v7 = 1#1 then do
    let v18 : Vec F S1x2688 .f32 ← Prog.lift (.load arg12 (Rect.unit (s := S64x2688) (k0_off2 i) S1x2688.size (k0_off2_inb i)).toLoadRect (View.loadsAt_vmem h_S1x2688))
    Prog.lift (.store arg12 (Rect.unit (s := S64x2688) (k0_off2 i) S1x2688.size (k0_off2_inb i)) (Gen.k0_pay2 (F := F)) Finset.univ (View.stores_vmem_bits_univ h_S1x2688 rfl) (.inl rfl))
    pure ⟨⟩
  else do
    pure ⟨⟩
  let v9 : Elt F .i32 ← smemLoad arg2 (Rect.unit (s := S63) (k0_off3 i) S1.size (k0_off3_inb i)) numel1_S1 rfl
  let v10 : BitVec 1 := Scalar.cmpi .ne v9 0#32
  let v11 : BitVec 32 := Scalar.extui v10
  let v12 : BitVec 1 := Scalar.cmpi .ne v11 0#32
  if v12 = 1#1 then do
    activeProg (F := F) i arg3 arg4 arg5 arg6 arg7 arg8 arg12 arg13
    pure ⟨⟩
  else do
    pure ⟨⟩
  if k0_h4 : k0_cond4 i = 1#1 then do
    let v16 : Vec F S63x2688 .f32 ← Prog.lift (.load arg12 (Rect.unit (s := S64x2688) ![0, 0] S63x2688.size inb_S64x2688_S63x2688_0_0).toLoadRect (View.loadsAt_vmem h_S63x2688))
    let v26 : Vec F S1x2688 .f32 ← Prog.lift (.load arg13 (Rect.unit (s := S1x2688) ![0, 0] S1x2688.size inb_S1x2688_S1x2688_0_0).toLoadRect (View.loadsAt_vmem h_S1x2688))
    let v27 : Vec F S1x2688 .f32 ← Prog.lift (.load arg9 (Rect.unit (s := S1x2688) ![0, 0] S1x2688.size inb_S1x2688_S1x2688_0_0).toLoadRect (View.loadsAt_vmem h_S1x2688))
    Prog.lift (.store arg9 (Rect.unit (s := S1x2688) ![0, 0] S1x2688.size inb_S1x2688_S1x2688_0_0) (Gen.k0_pay5 v16) Finset.univ (View.stores_vmem_bits_univ h_S1x2688 rfl) (.inl rfl))
    let v33 : Vec F S1x2688 .f32 ← Prog.lift (.load arg10 (Rect.unit (s := S1x2688) ![0, 0] S1x2688.size inb_S1x2688_S1x2688_0_0).toLoadRect (View.loadsAt_vmem h_S1x2688))
    Prog.lift (.store arg10 (Rect.unit (s := S1x2688) ![0, 0] S1x2688.size inb_S1x2688_S1x2688_0_0) (Gen.k0_pay6 v16 v26) Finset.univ (View.stores_vmem_bits_univ h_S1x2688 rfl) (.inl rfl))
    let v38 : Vec F S63x2688 .f32 ← Prog.lift (.load arg11 (Rect.unit (s := S63x2688) ![0, 0] S63x2688.size inb_S63x2688_S63x2688_0_0).toLoadRect (View.loadsAt_vmem h_S63x2688))
    Prog.lift (.store arg11 (Rect.unit (s := S63x2688) ![0, 0] S63x2688.size inb_S63x2688_S63x2688_0_0) (Gen.k0_pay7 v16) Finset.univ (View.stores_vmem_bits_univ h_S63x2688 rfl) (.inl rfl))
    pure ⟨⟩
  else do
    pure ⟨⟩
  pure ⟨⟩

/-- The body of the head kernel over its parts. -/
def bodyProg (i : grid0.Coords) (arg1 : Memref sig .tc .smem S63 .i32) (harg1 : arg1.IsWhole) (arg2 : Memref sig .tc .smem S63 .i32) (harg2 : arg2.IsWhole) (arg3 : Memref sig .tc .vmem S512x8192 .fp8e4m3) (harg3 : arg3.IsWhole) (arg4 : Memref sig .tc .vmem S1x512 .f32) (harg4 : arg4.IsWhole) (arg5 : Memref sig .tc .vmem S2688x128 .i32) (harg5 : arg5.IsWhole) (arg6 : Memref sig .tc .vmem S2688x1 .i32) (harg6 : arg6.IsWhole) (arg7 : Memref sig .tc .vmem S2688x1 .f32) (harg7 : arg7.IsWhole) (arg8 : Memref sig .tc .vmem S2688x8192 .fp8e4m3) (harg8 : arg8.IsWhole) (arg9 : Memref sig .tc .vmem S1x2688 .f32) (harg9 : arg9.IsWhole) (arg10 : Memref sig .tc .vmem S1x2688 .f32) (harg10 : arg10.IsWhole) (arg11 : Memref sig .tc .vmem S63x2688 .f32) (harg11 : arg11.IsWhole) (arg12 : Memref sig .tc .vmem S64x2688 .f32) (harg12 : arg12.IsWhole) (arg13 : Memref sig .tc .vmem S1x2688 .f32) (harg13 : arg13.IsWhole) :
    Prog (TpuEff nD τ sig (Elt F) Λ₀ .tc) PUnit := do
  initProg (F := F) i arg13
  let v4 : Elt F .i32 ← smemLoad arg2 (Rect.unit (s := S63) (k0_off1 i) S1.size (k0_off1_inb i)) numel1_S1 rfl
  deadProg (F := F) i v4 arg12
  let v9 : Elt F .i32 ← smemLoad arg2 (Rect.unit (s := S63) (k0_off3 i) S1.size (k0_off3_inb i)) numel1_S1 rfl
  liveProg (F := F) i v9 arg3 arg4 arg5 arg6 arg7 arg8 arg12 arg13
  lastProg (F := F) i arg9 arg10 arg11 arg12 arg13
  pure ⟨⟩

set_option maxRecDepth 65536 in
/-- The generated body is the flat body. -/
theorem cc0_head_flat : cc0_head (F := F) = bodyFlat (F := F) := rfl

/-- The flat body is its parts one after the other. -/
theorem bodyFlat_eq : bodyFlat (F := F) = bodyProg (F := F) := by
  funext i arg1 harg1 arg2 harg2 arg3 harg3 arg4 harg4 arg5 harg5 arg6 harg6 arg7 harg7 arg8 harg8 arg9 harg9 arg10 harg10 arg11 harg11 arg12 harg12 arg13 harg13
  unfold bodyFlat bodyProg initProg deadProg liveProg lastProg
  repeat' first
    | with_reducible rfl
    | refine bind_congr fun _ => ?_
    | (split <;> simp only [bind_assoc, pure_bind])

/-- The generated body is its parts one after the other. -/
theorem cc0_head_eq : cc0_head (F := F) = bodyProg (F := F) := cc0_head_flat.trans bodyFlat_eq

end Cert.KernelIdeal.Hand
-- ==== Proof.Hand.TileRun.lean ====
/- What one tile of the head kernel does to memory. -/
module

public import proofs.«01_k».proof.Proof.Hand.Kit
public import proofs.«01_k».proof.Proof.Hand.Tile
public import Idealize.ShloMosaic.Lib.WritesUnit

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- An array with the box of sizes `size` at `off` overwritten by `w`. -/
def putBox {s : Shape} {α : Type} (off size : Fin s.rank → ℕ) (w : (⟨s.rank, size⟩ : Shape).Idx → α) (d : s.Idx → α) : s.Idx → α :=
  fun y => if h : ∀ a, off a ≤ (y a).val ∧ (y a).val < off a + size a then w (Rect.unitLocal (s := s) (off := off) (size := size) y h) else d y

/-- The results of the tile at row `o` for the block of grid point `i`, from the staged arrays. -/
def tileAt (i : grid0.Coords) (o : Nat) (ho : o + 448 ≤ 2688) (x0 : Vec F S512x8192 .fp8e4m3) (x1 : Vec F S1x512 .f32)
    (x2 : Vec F S2688x128 .i32) (x3 : Vec F S2688x1 .i32) (x4 : Vec F S2688x1 .f32) (x5 : Vec F S2688x8192 .fp8e4m3) : FVec F S128x448 .f32 :=
  tileV (BitVec.ofNat 32 (i 0).val)
    (View.ld x5 (Rect.unit (s := S2688x8192) ![o, 0] S448x8192.size (inb_codes o ho)))
    (View.ld x0 (Rect.unit (s := S512x8192) ![0, 0] S512x8192.size inb_S512x8192_S512x8192_0_0))
    (View.ld x4 (Rect.unit (s := S2688x1) ![o, 0] S448x1.size (inb_col o ho)))
    (View.ld x3 (Rect.unit (s := S2688x1) ![o, 0] S448x1.size (inb_col o ho)))
    (View.ld x2 (Rect.unit (s := S2688x128) ![o, 0] S448x128.size (inb_mask o ho)))
    (View.ld x1 (Rect.unit (s := S1x512) ![0, 0] S1x128.size inb_S1x512_S1x128_0_0))
    (View.ld x1 (Rect.unit (s := S1x512) ![0, 128] S1x128.size inb_S1x512_S1x128_0_128))
    (View.ld x1 (Rect.unit (s := S1x512) ![0, 256] S1x128.size inb_S1x512_S1x128_0_256))
    (View.ld x1 (Rect.unit (s := S1x512) ![0, 384] S1x128.size inb_S1x512_S1x128_0_384))

/-- The scratch of log-sum-exps after the tile at row `o`. -/
def next0 (i : grid0.Coords) (o : Nat) (b : FVec F S128x448 .f32) (d : Vec F S64x2688 .f32) : Vec F S64x2688 .f32 :=
  putBox (s := S64x2688) (rowOff i o) S1x448.size (rowV b) d

/-- The scratch of target logits after the tile at row `o`. -/
def next1 (o : Nat) (ho : o + 448 ≤ 2688) (b : FVec F S128x448 .f32) (d : Vec F S1x2688 .f32) : Vec F S1x2688 .f32 :=
  putBox (s := S1x2688) ![0, o] S1x448.size (rowT b (View.ld d (Rect.unit (s := S1x2688) ![0, o] S1x448.size (inb_row o ho)))) d

set_option maxHeartbeats 4000000 in
/-- The tile program reads the staged arrays and overwrites its own part of the two scratch arrays. -/
theorem tile_run (c : Dev nD) (i : grid0.Coords)
    (arg3 : Memref sig .tc .vmem S512x8192 .fp8e4m3) (harg3 : arg3.IsWhole) (arg4 : Memref sig .tc .vmem S1x512 .f32) (harg4 : arg4.IsWhole)
    (arg5 : Memref sig .tc .vmem S2688x128 .i32) (harg5 : arg5.IsWhole) (arg6 : Memref sig .tc .vmem S2688x1 .i32) (harg6 : arg6.IsWhole)
    (arg7 : Memref sig .tc .vmem S2688x1 .f32) (harg7 : arg7.IsWhole) (arg8 : Memref sig .tc .vmem S2688x8192 .fp8e4m3) (harg8 : arg8.IsWhole)
    (arg12 : Memref sig .tc .vmem S64x2688 .f32) (harg12 : arg12.IsWhole) (arg13 : Memref sig .tc .vmem S1x2688 .f32) (harg13 : arg13.IsWhole)
    (x0 : Vec F S512x8192 .fp8e4m3) (x1 : Vec F S1x512 .f32) (x2 : Vec F S2688x128 .i32) (x3 : Vec F S2688x1 .i32)
    (x4 : Vec F S2688x1 .f32) (x5 : Vec F S2688x8192 .fp8e4m3) (d0 : Vec F S64x2688 .f32) (d1 : Vec F S1x2688 .f32)
    (o : Nat) (ho : o + 448 ≤ 2688) (E : Set ℕ) (K : PUnit → sProp 𝕄) :
    iprop(owns (c : Thread nD τ) arg3 fullShare x0 ∗ owns (c : Thread nD τ) arg4 fullShare x1 ∗ owns (c : Thread nD τ) arg5 fullShare x2
        ∗ owns (c : Thread nD τ) arg6 fullShare x3 ∗ owns (c : Thread nD τ) arg7 fullShare x4 ∗ owns (c : Thread nD τ) arg8 fullShare x5
        ∗ owns (c : Thread nD τ) arg12 fullShare d0 ∗ owns (c : Thread nD τ) arg13 fullShare d1
        ∗ (iprop(owns (c : Thread nD τ) arg3 fullShare x0 ∗ owns (c : Thread nD τ) arg4 fullShare x1 ∗ owns (c : Thread nD τ) arg5 fullShare x2
            ∗ owns (c : Thread nD τ) arg6 fullShare x3 ∗ owns (c : Thread nD τ) arg7 fullShare x4 ∗ owns (c : Thread nD τ) arg8 fullShare x5
            ∗ owns (c : Thread nD τ) arg12 fullShare (next0 i o (tileAt i o ho x0 x1 x2 x3 x4 x5) d0)
            ∗ owns (c : Thread nD τ) arg13 fullShare (next1 o ho (tileAt i o ho x0 x1 x2 x3 x4 x5) d1)) -∗ K ⟨⟩))
      ⊢ wp frame (wpE (defs₀ (F := F)) Variants.none c none) E (tileProg (F := F) i arg3 arg4 arg5 arg6 arg7 arg8 arg12 arg13 o ho) K := by
  unfold tileProg
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hs0, HS0⟩, ⟨%fs1, %hs1, HS1⟩, Hk⟩
  obtain rfl := harg3.eq_unread hf0; obtain rfl := harg4.eq_unread hf1; obtain rfl := harg5.eq_unread hf2
  obtain rfl := harg6.eq_unread hf3; obtain rfl := harg7.eq_unread hf4; obtain rfl := harg8.eq_unread hf5
  obtain rfl := harg12.eq_unread hs0; obtain rfl := harg13.eq_unread hs1
  sl_exec
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [H4]
  · iexists _; isplitr; · ipureintro; exact harg7.read_unread _
    iexact H4
  isplitl [H5]
  · iexists _; isplitr; · ipureintro; exact harg8.read_unread _
    iexact H5
  isplitl [HS0]
  · iexists _; isplitr; swap; · iexact HS0
    ipureintro
    funext y
    rw [View.read_writes_cons_unit _ _ _ _ _ _ rfl]
    simp only [View.readAt_eq_ld, hf0, hf1, hf2, hf3, hf4, hf5]
    exact congrArg (fun d => next0 i o (tileAt i o ho x0 x1 x2 x3 x4 x5) d y) hs0
  · iexists _; isplitr; swap; · iexact HS1
    ipureintro
    funext y
    rw [View.read_writes_cons_unit _ _ _ _ _ _ rfl]
    simp only [View.readAt_eq_ld, hf0, hf1, hf2, hf3, hf4, hf5]
    exact congrArg (fun d => next1 o ho (tileAt i o ho x0 x1 x2 x3 x4 x5) d y) hs1

/-- The scratch of log-sum-exps after the six tiles of a block. -/
def block0 (i : grid0.Coords) (x0 : Vec F S512x8192 .fp8e4m3) (x1 : Vec F S1x512 .f32) (x2 : Vec F S2688x128 .i32)
    (x3 : Vec F S2688x1 .i32) (x4 : Vec F S2688x1 .f32) (x5 : Vec F S2688x8192 .fp8e4m3) (d : Vec F S64x2688 .f32) : Vec F S64x2688 .f32 :=
  next0 i 2240 (tileAt i 2240 (by decide) x0 x1 x2 x3 x4 x5) (next0 i 1792 (tileAt i 1792 (by decide) x0 x1 x2 x3 x4 x5)
    (next0 i 1344 (tileAt i 1344 (by decide) x0 x1 x2 x3 x4 x5) (next0 i 896 (tileAt i 896 (by decide) x0 x1 x2 x3 x4 x5)
      (next0 i 448 (tileAt i 448 (by decide) x0 x1 x2 x3 x4 x5) (next0 i 0 (tileAt i 0 (by decide) x0 x1 x2 x3 x4 x5) d)))))

/-- The scratch of target logits after the six tiles of a block. -/
def block1 (i : grid0.Coords) (x0 : Vec F S512x8192 .fp8e4m3) (x1 : Vec F S1x512 .f32) (x2 : Vec F S2688x128 .i32)
    (x3 : Vec F S2688x1 .i32) (x4 : Vec F S2688x1 .f32) (x5 : Vec F S2688x8192 .fp8e4m3) (d : Vec F S1x2688 .f32) : Vec F S1x2688 .f32 :=
  next1 2240 (by decide) (tileAt i 2240 (by decide) x0 x1 x2 x3 x4 x5) (next1 1792 (by decide) (tileAt i 1792 (by decide) x0 x1 x2 x3 x4 x5)
    (next1 1344 (by decide) (tileAt i 1344 (by decide) x0 x1 x2 x3 x4 x5) (next1 896 (by decide) (tileAt i 896 (by decide) x0 x1 x2 x3 x4 x5)
      (next1 448 (by decide) (tileAt i 448 (by decide) x0 x1 x2 x3 x4 x5) (next1 0 (by decide) (tileAt i 0 (by decide) x0 x1 x2 x3 x4 x5) d)))))

set_option maxHeartbeats 4000000 in
/-- The branch of an active block overwrites the two scratch arrays tile by tile. -/
theorem active_run (c : Dev nD) (i : grid0.Coords)
    (arg3 : Memref sig .tc .vmem S512x8192 .fp8e4m3) (harg3 : arg3.IsWhole) (arg4 : Memref sig .tc .vmem S1x512 .f32) (harg4 : arg4.IsWhole)
    (arg5 : Memref sig .tc .vmem S2688x128 .i32) (harg5 : arg5.IsWhole) (arg6 : Memref sig .tc .vmem S2688x1 .i32) (harg6 : arg6.IsWhole)
    (arg7 : Memref sig .tc .vmem S2688x1 .f32) (harg7 : arg7.IsWhole) (arg8 : Memref sig .tc .vmem S2688x8192 .fp8e4m3) (harg8 : arg8.IsWhole)
    (arg12 : Memref sig .tc .vmem S64x2688 .f32) (harg12 : arg12.IsWhole) (arg13 : Memref sig .tc .vmem S1x2688 .f32) (harg13 : arg13.IsWhole)
    (x0 : Vec F S512x8192 .fp8e4m3) (x1 : Vec F S1x512 .f32) (x2 : Vec F S2688x128 .i32) (x3 : Vec F S2688x1 .i32)
    (x4 : Vec F S2688x1 .f32) (x5 : Vec F S2688x8192 .fp8e4m3) (d0 : Vec F S64x2688 .f32) (d1 : Vec F S1x2688 .f32)
    (E : Set ℕ) (K : PUnit → sProp 𝕄) :
    iprop(owns (c : Thread nD τ) arg3 fullShare x0 ∗ owns (c : Thread nD τ) arg4 fullShare x1 ∗ owns (c : Thread nD τ) arg5 fullShare x2
        ∗ owns (c : Thread nD τ) arg6 fullShare x3 ∗ owns (c : Thread nD τ) arg7 fullShare x4 ∗ owns (c : Thread nD τ) arg8 fullShare x5
        ∗ owns (c : Thread nD τ) arg12 fullShare d0 ∗ owns (c : Thread nD τ) arg13 fullShare d1
        ∗ (iprop(owns (c : Thread nD τ) arg3 fullShare x0 ∗ owns (c : Thread nD τ) arg4 fullShare x1 ∗ owns (c : Thread nD τ) arg5 fullShare x2
            ∗ owns (c : Thread nD τ) arg6 fullShare x3 ∗ owns (c : Thread nD τ) arg7 fullShare x4 ∗ owns (c : Thread nD τ) arg8 fullShare x5
            ∗ owns (c : Thread nD τ) arg12 fullShare (block0 i x0 x1 x2 x3 x4 x5 d0)
            ∗ owns (c : Thread nD τ) arg13 fullShare (block1 i x0 x1 x2 x3 x4 x5 d1)) -∗ K ⟨⟩))
      ⊢ wp frame (wpE (defs₀ (F := F)) Variants.none c none) E (activeProg (F := F) i arg3 arg4 arg5 arg6 arg7 arg8 arg12 arg13) K := by
  unfold activeProg
  have T := tile_run c i arg3 harg3 arg4 harg4 arg5 harg5 arg6 harg6 arg7 harg7 arg8 harg8 arg12 harg12 arg13 harg13 x0 x1 x2 x3 x4 x5
  simp only [wp_bind]
  iintro ⟨H0, H1, H2, H3, H4, H5, HS0, HS1, Hk⟩
  iapply T d0 d1 0 (Nat.le_of_ble_eq_true rfl) E
  isplitl [H0]; · iexact H0
  isplitl [H1]; · iexact H1
  isplitl [H2]; · iexact H2
  isplitl [H3]; · iexact H3
  isplitl [H4]; · iexact H4
  isplitl [H5]; · iexact H5
  isplitl [HS0]; · iexact HS0
  isplitl [HS1]; · iexact HS1
  iintro ⟨H0, H1, H2, H3, H4, H5, HS0, HS1⟩
  iapply T _ _ 448 (Nat.le_of_ble_eq_true rfl) E
  isplitl [H0]; · iexact H0
  isplitl [H1]; · iexact H1
  isplitl [H2]; · iexact H2
  isplitl [H3]; · iexact H3
  isplitl [H4]; · iexact H4
  isplitl [H5]; · iexact H5
  isplitl [HS0]; · iexact HS0
  isplitl [HS1]; · iexact HS1
  iintro ⟨H0, H1, H2, H3, H4, H5, HS0, HS1⟩
  iapply T _ _ 896 (Nat.le_of_ble_eq_true rfl) E
  isplitl [H0]; · iexact H0
  isplitl [H1]; · iexact H1
  isplitl [H2]; · iexact H2
  isplitl [H3]; · iexact H3
  isplitl [H4]; · iexact H4
  isplitl [H5]; · iexact H5
  isplitl [HS0]; · iexact HS0
  isplitl [HS1]; · iexact HS1
  iintro ⟨H0, H1, H2, H3, H4, H5, HS0, HS1⟩
  iapply T _ _ 1344 (Nat.le_of_ble_eq_true rfl) E
  isplitl [H0]; · iexact H0
  isplitl [H1]; · iexact H1
  isplitl [H2]; · iexact H2
  isplitl [H3]; · iexact H3
  isplitl [H4]; · iexact H4
  isplitl [H5]; · iexact H5
  isplitl [HS0]; · iexact HS0
  isplitl [HS1]; · iexact HS1
  iintro ⟨H0, H1, H2, H3, H4, H5, HS0, HS1⟩
  iapply T _ _ 1792 (Nat.le_of_ble_eq_true rfl) E
  isplitl [H0]; · iexact H0
  isplitl [H1]; · iexact H1
  isplitl [H2]; · iexact H2
  isplitl [H3]; · iexact H3
  isplitl [H4]; · iexact H4
  isplitl [H5]; · iexact H5
  isplitl [HS0]; · iexact HS0
  isplitl [HS1]; · iexact HS1
  iintro ⟨H0, H1, H2, H3, H4, H5, HS0, HS1⟩
  iapply T _ _ 2240 (Nat.le_of_ble_eq_true rfl) E
  isplitl [H0]; · iexact H0
  isplitl [H1]; · iexact H1
  isplitl [H2]; · iexact H2
  isplitl [H3]; · iexact H3
  isplitl [H4]; · iexact H4
  isplitl [H5]; · iexact H5
  isplitl [HS0]; · iexact HS0
  isplitl [HS1]; · iexact HS1
  iexact Hk

end Cert.KernelIdeal.Hand
-- ==== Proof.Hand.BodyRun.lean ====
/- What one grid point of the head kernel does to memory: the parts of the body, then the whole. -/
module

public import proofs.«01_k».proof.Proof.Hand.TileRun
public import Idealize.ShloMosaic.Lib.Pipeline.ValueKit.Tiles

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The scratch of target logits as the block of point `i` finds it: filled with the lowest value at the first point. -/
def start1 (i : grid0.Coords) (d : Vec F S1x2688 .f32) : Vec F S1x2688 .f32 :=
  if cond0_0 i then k0_pay1 (F := F) else d

/-- The scratch of log-sum-exps after a point whose block has no legal word. -/
def dead0 (i : grid0.Coords) (d : Vec F S64x2688 .f32) : Vec F S64x2688 .f32 :=
  putBox (s := S64x2688) (k0_off2 i) S1x2688.size (k0_pay2 (F := F)) d

/-- The first 63 rows of the scratch of log-sum-exps. -/
def rows63 (d : Vec F S64x2688 .f32) : Vec F S63x2688 .f32 :=
  View.ld d (Rect.unit (s := S64x2688) ![0, 0] S63x2688.size inb_S64x2688_S63x2688_0_0)

/-- The scratch of log-sum-exps after point `i`, `a` the block's flag word. -/
def step0 (i : grid0.Coords) (a : BitVec 32) (x0 : Vec F S512x8192 .fp8e4m3) (x1 : Vec F S1x512 .f32) (x2 : Vec F S2688x128 .i32)
    (x3 : Vec F S2688x1 .i32) (x4 : Vec F S2688x1 .f32) (x5 : Vec F S2688x8192 .fp8e4m3) (d : Vec F S64x2688 .f32) : Vec F S64x2688 .f32 :=
  if a = 0#32 then dead0 i d else block0 i x0 x1 x2 x3 x4 x5 d

/-- The scratch of target logits after point `i`, `a` the block's flag word. -/
def step1 (i : grid0.Coords) (a : BitVec 32) (x0 : Vec F S512x8192 .fp8e4m3) (x1 : Vec F S1x512 .f32) (x2 : Vec F S2688x128 .i32)
    (x3 : Vec F S2688x1 .i32) (x4 : Vec F S2688x1 .f32) (x5 : Vec F S2688x8192 .fp8e4m3) (d : Vec F S1x2688 .f32) : Vec F S1x2688 .f32 :=
  if a = 0#32 then start1 i d else block1 i x0 x1 x2 x3 x4 x5 (start1 i d)

theorem cond1_iff (i : grid0.Coords) (a : BitVec 32) : cond0_1 i a ↔ a = 0#32 := by
  have h : a.toNat = 0 ↔ a = 0#32 := ⟨fun h => BitVec.eq_of_toNat_eq h, fun h => by rw [h]; rfl⟩
  rw [← h]; unfold cond0_1; word_cmp

theorem cond2_iff (i : grid0.Coords) (a : BitVec 32) : cond0_2 i a ↔ ¬ a = 0#32 := by
  have h : a.toNat = 0 ↔ a = 0#32 := ⟨fun h => BitVec.eq_of_toNat_eq h, fun h => by rw [h]; rfl⟩
  rw [← h]; unfold cond0_2; word_cmp

theorem zero_off {s : Fin 2 → ℕ} (y : (⟨2, s⟩ : Shape).Idx) (a : Fin 2) : (y a).val = (![0, 0] : Fin 2 → ℕ) a + (y a).val := by
  fin_cases a <;> simp

theorem init_run (c : Dev nD) (i : grid0.Coords) (arg13 : Memref sig .tc .vmem S1x2688 .f32) (harg13 : arg13.IsWhole)
    (d1 : Vec F S1x2688 .f32) (E : Set ℕ) (K : PUnit → sProp 𝕄) :
    iprop(owns (c : Thread nD τ) arg13 fullShare d1 ∗ (owns (c : Thread nD τ) arg13 fullShare (start1 i d1) -∗ K ⟨⟩))
      ⊢ wp frame (wpE (defs₀ (F := F)) Variants.none c none) E (initProg (F := F) i arg13) K := by
  unfold initProg start1
  by_cases h : cond0_0 i
  · rw [if_pos h]
    unfold owns
    iintro ⟨⟨%f, %hf, H⟩, Hk⟩
    obtain rfl := harg13.eq_unread hf
    sl_exec (disch := sl_exact h)
    sl_step
    iapply Hk
    iexists _; isplitr; swap; · iexact H
    ipureintro
    funext y
    exact View.read_writes_cons_unit_of_mem _ _ _ _ _ y y rfl (zero_off y)
  · rw [if_neg h]
    iintro ⟨H, Hk⟩
    sl_exec (disch := sl_exact h)
    sl_step
    iapply Hk
    iexact H

theorem dead_run (c : Dev nD) (i : grid0.Coords) (a : BitVec 32) (arg12 : Memref sig .tc .vmem S64x2688 .f32) (harg12 : arg12.IsWhole)
    (d0 : Vec F S64x2688 .f32) (E : Set ℕ) (K : PUnit → sProp 𝕄) :
    iprop(owns (c : Thread nD τ) arg12 fullShare d0 ∗ (owns (c : Thread nD τ) arg12 fullShare (if a = 0#32 then dead0 i d0 else d0) -∗ K ⟨⟩))
      ⊢ wp frame (wpE (defs₀ (F := F)) Variants.none c none) E (deadProg (F := F) i a arg12) K := by
  unfold deadProg
  by_cases h : a = 0#32
  · have h' := (cond1_iff i a).mpr h
    rw [if_pos h]
    unfold owns
    iintro ⟨⟨%f, %hf, H⟩, Hk⟩
    obtain rfl := harg12.eq_unread hf
    sl_exec (disch := sl_exact h')
    sl_step
    iapply Hk
    iexists _; isplitr; swap; · iexact H
    ipureintro
    funext y
    rw [View.read_writes_cons_unit _ _ _ _ _ _ rfl]
    exact congrArg (fun d => dead0 i d y) hf
  · have h' := fun e => h ((cond1_iff i a).mp e)
    rw [if_neg h]
    iintro ⟨H, Hk⟩
    sl_exec (disch := sl_exact h')
    sl_step
    iapply Hk
    iexact H

theorem live_run (c : Dev nD) (i : grid0.Coords) (a : BitVec 32)
    (arg3 : Memref sig .tc .vmem S512x8192 .fp8e4m3) (harg3 : arg3.IsWhole) (arg4 : Memref sig .tc .vmem S1x512 .f32) (harg4 : arg4.IsWhole)
    (arg5 : Memref sig .tc .vmem S2688x128 .i32) (harg5 : arg5.IsWhole) (arg6 : Memref sig .tc .vmem S2688x1 .i32) (harg6 : arg6.IsWhole)
    (arg7 : Memref sig .tc .vmem S2688x1 .f32) (harg7 : arg7.IsWhole) (arg8 : Memref sig .tc .vmem S2688x8192 .fp8e4m3) (harg8 : arg8.IsWhole)
    (arg12 : Memref sig .tc .vmem S64x2688 .f32) (harg12 : arg12.IsWhole) (arg13 : Memref sig .tc .vmem S1x2688 .f32) (harg13 : arg13.IsWhole)
    (x0 : Vec F S512x8192 .fp8e4m3) (x1 : Vec F S1x512 .f32) (x2 : Vec F S2688x128 .i32) (x3 : Vec F S2688x1 .i32)
    (x4 : Vec F S2688x1 .f32) (x5 : Vec F S2688x8192 .fp8e4m3) (d0 : Vec F S64x2688 .f32) (d1 : Vec F S1x2688 .f32)
    (E : Set ℕ) (K : PUnit → sProp 𝕄) :
    iprop(owns (c : Thread nD τ) arg3 fullShare x0 ∗ owns (c : Thread nD τ) arg4 fullShare x1 ∗ owns (c : Thread nD τ) arg5 fullShare x2
        ∗ owns (c : Thread nD τ) arg6 fullShare x3 ∗ owns (c : Thread nD τ) arg7 fullShare x4 ∗ owns (c : Thread nD τ) arg8 fullShare x5
        ∗ owns (c : Thread nD τ) arg12 fullShare d0 ∗ owns (c : Thread nD τ) arg13 fullShare d1
        ∗ (iprop(owns (c : Thread nD τ) arg3 fullShare x0 ∗ owns (c : Thread nD τ) arg4 fullShare x1 ∗ owns (c : Thread nD τ) arg5 fullShare x2
        ∗ owns (c : Thread nD τ) arg6 fullShare x3 ∗ owns (c : Thread nD τ) arg7 fullShare x4 ∗ owns (c : Thread nD τ) arg8 fullShare x5
            ∗ owns (c : Thread nD τ) arg12 fullShare (if a = 0#32 then d0 else block0 i x0 x1 x2 x3 x4 x5 d0)
            ∗ owns (c : Thread nD τ) arg13 fullShare (if a = 0#32 then d1 else block1 i x0 x1 x2 x3 x4 x5 d1)) -∗ K ⟨⟩))
      ⊢ wp frame (wpE (defs₀ (F := F)) Variants.none c none) E (liveProg (F := F) i a arg3 arg4 arg5 arg6 arg7 arg8 arg12 arg13) K := by
  unfold liveProg
  by_cases h : a = 0#32
  · have h' := fun e => (cond2_iff i a).mp e h
    rw [if_pos h, if_pos h, if_neg h']
    rw [wp_pure]
    iintro ⟨H0, H1, H2, H3, H4, H5, HS0, HS1, Hk⟩
    imodintro
    iapply Hk
    (isplitl [H0]; · iexact H0); (isplitl [H1]; · iexact H1); (isplitl [H2]; · iexact H2); (isplitl [H3]; · iexact H3); (isplitl [H4]; · iexact H4); (isplitl [H5]; · iexact H5)
    isplitl [HS0]; · iexact HS0
    iexact HS1
  · have h' := (cond2_iff i a).mpr h
    rw [if_neg h, if_neg h, if_pos h']
    simp only [wp_bind]
    iintro ⟨H0, H1, H2, H3, H4, H5, HS0, HS1, Hk⟩
    iapply active_run c i arg3 harg3 arg4 harg4 arg5 harg5 arg6 harg6 arg7 harg7 arg8 harg8 arg12 harg12 arg13 harg13 x0 x1 x2 x3 x4 x5 d0 d1 E
    (isplitl [H0]; · iexact H0); (isplitl [H1]; · iexact H1); (isplitl [H2]; · iexact H2); (isplitl [H3]; · iexact H3); (isplitl [H4]; · iexact H4); (isplitl [H5]; · iexact H5)
    isplitl [HS0]; · iexact HS0
    isplitl [HS1]; · iexact HS1
    iintro H
    rw [wp_pure]
    imodintro
    iapply Hk
    iexact H

/-- What the last point writes to a result's buffer; at the other points the buffer stays. -/
def atLast {α : Type} (i : grid0.Coords) (v e : α) : α := if cond0_3 i then v else e

set_option maxHeartbeats 4000000 in
theorem last_run (c : Dev nD) (i : grid0.Coords) (arg9 : Memref sig .tc .vmem S1x2688 .f32) (harg9 : arg9.IsWhole)
    (arg10 : Memref sig .tc .vmem S1x2688 .f32) (harg10 : arg10.IsWhole) (arg11 : Memref sig .tc .vmem S63x2688 .f32) (harg11 : arg11.IsWhole)
    (arg12 : Memref sig .tc .vmem S64x2688 .f32) (harg12 : arg12.IsWhole) (arg13 : Memref sig .tc .vmem S1x2688 .f32) (harg13 : arg13.IsWhole)
    (e6 e7 : Vec F S1x2688 .f32) (e8 : Vec F S63x2688 .f32) (d0 : Vec F S64x2688 .f32) (d1 : Vec F S1x2688 .f32) (E : Set ℕ) (K : PUnit → sProp 𝕄) :
    iprop(owns (c : Thread nD τ) arg9 fullShare e6 ∗ owns (c : Thread nD τ) arg10 fullShare e7 ∗ owns (c : Thread nD τ) arg11 fullShare e8
        ∗ owns (c : Thread nD τ) arg12 fullShare d0 ∗ owns (c : Thread nD τ) arg13 fullShare d1
        ∗ (iprop(owns (c : Thread nD τ) arg9 fullShare (atLast i (k0_pay5 (rows63 d0)) e6)
            ∗ owns (c : Thread nD τ) arg10 fullShare (atLast i (k0_pay6 (rows63 d0) d1) e7)
            ∗ owns (c : Thread nD τ) arg11 fullShare (atLast i (k0_pay7 (rows63 d0)) e8)
            ∗ owns (c : Thread nD τ) arg12 fullShare d0 ∗ owns (c : Thread nD τ) arg13 fullShare d1) -∗ K ⟨⟩))
      ⊢ wp frame (wpE (defs₀ (F := F)) Variants.none c none) E (lastProg (F := F) i arg9 arg10 arg11 arg12 arg13) K := by
  unfold lastProg atLast
  by_cases h : cond0_3 i
  · simp only [if_pos h]
    unfold owns
    iintro ⟨⟨%f6, %hf6, H6⟩, ⟨%f7, %hf7, H7⟩, ⟨%f8, %hf8, H8⟩, ⟨%f0, %hf0, H0⟩, ⟨%f1, %hf1, H1⟩, Hk⟩
    obtain rfl := harg9.eq_unread hf6; obtain rfl := harg10.eq_unread hf7; obtain rfl := harg11.eq_unread hf8
    obtain rfl := harg12.eq_unread hf0; obtain rfl := harg13.eq_unread hf1
    have hl : View.ld d1 (Rect.unit (s := S1x2688) ![0, 0] ![1, 2688] inb_S1x2688_S1x2688_0_0) = d1 :=
      funext fun y => View.ld_unit_apply_of _ _ _ _ y y (zero_off y)
    sl_exec (disch := sl_exact h)
    sl_step
    iapply Hk
    isplitl [H6]
    · iexists _; isplitr; swap; · iexact H6
      ipureintro
      funext y
      refine (View.read_writes_cons_unit_of_mem _ _ _ _ _ y y rfl (zero_off y)).trans ?_
      simp only [View.readAt_eq_ld, hf0, hf1, hl]
      try rfl
    isplitl [H7]
    · iexists _; isplitr; swap; · iexact H7
      ipureintro
      funext y
      refine (View.read_writes_cons_unit_of_mem _ _ _ _ _ y y rfl (zero_off y)).trans ?_
      simp only [View.readAt_eq_ld, hf0, hf1, hl]
      try rfl
    isplitl [H8]
    · iexists _; isplitr; swap; · iexact H8
      ipureintro
      funext y
      refine (View.read_writes_cons_unit_of_mem _ _ _ _ _ y y rfl (zero_off y)).trans ?_
      simp only [View.readAt_eq_ld, hf0, hf1, hl]
      try rfl
    isplitl [H0]
    · iexists _; isplitr; swap; · iexact H0
      ipureintro; exact hf0
    · iexists _; isplitr; swap; · iexact H1
      ipureintro; exact hf1
  · simp only [if_neg h]
    rw [dif_neg h, wp_pure]
    iintro ⟨H6, H7, H8, H0, H1, Hk⟩
    imodintro
    iapply Hk
    isplitl [H6]; · iexact H6
    isplitl [H7]; · iexact H7
    isplitl [H8]; · iexact H8
    isplitl [H0]; · iexact H0
    iexact H1

/-- The flag word a point reads from the second table. -/
def flagAt (c : Dev nD) (i : grid0.Coords) (xt : TbBuf0 (F := F) c tbM0_1) : BitVec 32 :=
  tbM0_1.view.readAt (Elt F) (Rect.unit (s := S63) (k0_off1 i) S1.size (k0_off1_inb i)).toLoadRect xt (Shape.Idx.first (numel1_S1.symm ▸ Nat.one_pos))

theorem flag_run1 (c : Dev nD) (i : grid0.Coords) (xt : TbBuf0 (F := F) c tbM0_1) (E : Set ℕ) (K : Elt F .i32 → sProp 𝕄) :
    iprop(tbPt0 c tbM0_1 xt ∗ (tbPt0 c tbM0_1 xt -∗ K (flagAt c i xt)))
      ⊢ wp frame (wpE (defs₀ (F := F)) Variants.none c none) E (smemLoad tbM0_1 (Rect.unit (s := S63) (k0_off1 i) S1.size (k0_off1_inb i)) numel1_S1 rfl) K := by
  unfold flagAt
  iintro ⟨H, Hk⟩
  sl_exec
  sl_step
  iapply Hk
  iexact H

theorem flag_run3 (c : Dev nD) (i : grid0.Coords) (xt : TbBuf0 (F := F) c tbM0_1) (E : Set ℕ) (K : Elt F .i32 → sProp 𝕄) :
    iprop(tbPt0 c tbM0_1 xt ∗ (tbPt0 c tbM0_1 xt -∗ K (flagAt c i xt)))
      ⊢ wp frame (wpE (defs₀ (F := F)) Variants.none c none) E (smemLoad tbM0_1 (Rect.unit (s := S63) (k0_off3 i) S1.size (k0_off3_inb i)) numel1_S1 rfl) K := by
  have e : ∀ (h1 : ∀ a, k0_off1 i a + S1.size a ≤ S63.size a) (h3 : ∀ a, k0_off3 i a + S1.size a ≤ S63.size a),
      (smemLoad tbM0_1 (Rect.unit (s := S63) (k0_off3 i) S1.size h3) numel1_S1 rfl : Prog (TpuEff nD τ sig (Elt F) Λ₀ .tc) (Elt F .i32))
        = smemLoad tbM0_1 (Rect.unit (s := S63) (k0_off1 i) S1.size h1) numel1_S1 rfl := fun _ _ => rfl
  rw [e (k0_off1_inb i)]
  exact flag_run1 c i xt E K

set_option maxHeartbeats 4000000 in
/-- The body at any point: the inputs and the tables stay, the scratch arrays step, the last point writes the results. -/
theorem body_run (c : Dev nD) (i : grid0.Coords)
    (arg3 : Memref sig .tc .vmem S512x8192 .fp8e4m3) (harg3 : arg3.IsWhole) (arg4 : Memref sig .tc .vmem S1x512 .f32) (harg4 : arg4.IsWhole)
    (arg5 : Memref sig .tc .vmem S2688x128 .i32) (harg5 : arg5.IsWhole) (arg6 : Memref sig .tc .vmem S2688x1 .i32) (harg6 : arg6.IsWhole)
    (arg7 : Memref sig .tc .vmem S2688x1 .f32) (harg7 : arg7.IsWhole) (arg8 : Memref sig .tc .vmem S2688x8192 .fp8e4m3) (harg8 : arg8.IsWhole)
    (arg12 : Memref sig .tc .vmem S64x2688 .f32) (harg12 : arg12.IsWhole) (arg13 : Memref sig .tc .vmem S1x2688 .f32) (harg13 : arg13.IsWhole)
    (x0 : Vec F S512x8192 .fp8e4m3) (x1 : Vec F S1x512 .f32) (x2 : Vec F S2688x128 .i32) (x3 : Vec F S2688x1 .i32)
    (x4 : Vec F S2688x1 .f32) (x5 : Vec F S2688x8192 .fp8e4m3) (d0 : Vec F S64x2688 .f32) (d1 : Vec F S1x2688 .f32)
    (arg9 : Memref sig .tc .vmem S1x2688 .f32) (harg9 : arg9.IsWhole)
    (arg10 : Memref sig .tc .vmem S1x2688 .f32) (harg10 : arg10.IsWhole) (arg11 : Memref sig .tc .vmem S63x2688 .f32) (harg11 : arg11.IsWhole)
    (e6 e7 : Vec F S1x2688 .f32) (e8 : Vec F S63x2688 .f32) (xt0 : TbBuf0 (F := F) c tbM0_0) (xt : TbBuf0 (F := F) c tbM0_1)
    (E : Set ℕ) (K : PUnit → sProp 𝕄) :
    iprop(owns (c : Thread nD τ) arg3 fullShare x0 ∗ owns (c : Thread nD τ) arg4 fullShare x1 ∗ owns (c : Thread nD τ) arg5 fullShare x2
        ∗ owns (c : Thread nD τ) arg6 fullShare x3 ∗ owns (c : Thread nD τ) arg7 fullShare x4 ∗ owns (c : Thread nD τ) arg8 fullShare x5
        ∗ owns (c : Thread nD τ) arg9 fullShare e6 ∗ owns (c : Thread nD τ) arg10 fullShare e7 ∗ owns (c : Thread nD τ) arg11 fullShare e8
        ∗ owns (c : Thread nD τ) arg12 fullShare d0 ∗ owns (c : Thread nD τ) arg13 fullShare d1
        ∗ tbPt0 c tbM0_0 xt0 ∗ tbPt0 c tbM0_1 xt
        ∗ (iprop(owns (c : Thread nD τ) arg3 fullShare x0 ∗ owns (c : Thread nD τ) arg4 fullShare x1 ∗ owns (c : Thread nD τ) arg5 fullShare x2
        ∗ owns (c : Thread nD τ) arg6 fullShare x3 ∗ owns (c : Thread nD τ) arg7 fullShare x4 ∗ owns (c : Thread nD τ) arg8 fullShare x5
            ∗ owns (c : Thread nD τ) arg9 fullShare (atLast i (k0_pay5 (rows63 (step0 i (flagAt c i xt) x0 x1 x2 x3 x4 x5 d0))) e6)
            ∗ owns (c : Thread nD τ) arg10 fullShare (atLast i (k0_pay6 (rows63 (step0 i (flagAt c i xt) x0 x1 x2 x3 x4 x5 d0)) (step1 i (flagAt c i xt) x0 x1 x2 x3 x4 x5 d1)) e7)
            ∗ owns (c : Thread nD τ) arg11 fullShare (atLast i (k0_pay7 (rows63 (step0 i (flagAt c i xt) x0 x1 x2 x3 x4 x5 d0))) e8)
            ∗ owns (c : Thread nD τ) arg12 fullShare (step0 i (flagAt c i xt) x0 x1 x2 x3 x4 x5 d0)
            ∗ owns (c : Thread nD τ) arg13 fullShare (step1 i (flagAt c i xt) x0 x1 x2 x3 x4 x5 d1)
            ∗ tbPt0 c tbM0_0 xt0 ∗ tbPt0 c tbM0_1 xt) -∗ K ⟨⟩))
      ⊢ wp frame (wpE (defs₀ (F := F)) Variants.none c none) E (cc0_head (F := F) i tbM0_0 htbM0_0 tbM0_1 htbM0_1 arg3 harg3 arg4 harg4 arg5 harg5 arg6 harg6 arg7 harg7 arg8 harg8 arg9 harg9 arg10 harg10 arg11 harg11 arg12 harg12 arg13 harg13) K := by
  rw [cc0_head_eq]
  unfold bodyProg
  simp only [wp_bind]
  iintro ⟨H0, H1, H2, H3, H4, H5, H6, H7, H8, HS0, HS1, HT0, HT1, Hk⟩
  iapply init_run c i arg13 harg13 d1 E
  isplitl [HS1]; · iexact HS1
  iintro HS1
  iapply flag_run1 c i xt E
  isplitl [HT1]; · iexact HT1
  iintro HT1
  iapply dead_run c i (flagAt c i xt) arg12 harg12 d0 E
  isplitl [HS0]; · iexact HS0
  iintro HS0
  iapply flag_run3 c i xt E
  isplitl [HT1]; · iexact HT1
  iintro HT1
  iapply live_run c i (flagAt c i xt) arg3 harg3 arg4 harg4 arg5 harg5 arg6 harg6 arg7 harg7 arg8 harg8 arg12 harg12 arg13 harg13 x0 x1 x2 x3 x4 x5 _ _ E
  (isplitl [H0]; · iexact H0); (isplitl [H1]; · iexact H1); (isplitl [H2]; · iexact H2); (isplitl [H3]; · iexact H3); (isplitl [H4]; · iexact H4); (isplitl [H5]; · iexact H5)
  isplitl [HS0]; · iexact HS0
  isplitl [HS1]; · iexact HS1
  iintro ⟨H0, H1, H2, H3, H4, H5, HS0, HS1⟩
  have e0 : (if flagAt c i xt = 0#32 then (if flagAt c i xt = 0#32 then dead0 i d0 else d0) else block0 i x0 x1 x2 x3 x4 x5 (if flagAt c i xt = 0#32 then dead0 i d0 else d0)) = step0 i (flagAt c i xt) x0 x1 x2 x3 x4 x5 d0 := by
    unfold step0; split <;> rfl
  have e1 : (if flagAt c i xt = 0#32 then start1 i d1 else block1 i x0 x1 x2 x3 x4 x5 (start1 i d1)) = step1 i (flagAt c i xt) x0 x1 x2 x3 x4 x5 d1 := rfl
  rw [e0, e1]
  iapply last_run c i arg9 harg9 arg10 harg10 arg11 harg11 arg12 harg12 arg13 harg13 e6 e7 e8 _ _ E
  isplitl [H6]; · iexact H6
  isplitl [H7]; · iexact H7
  isplitl [H8]; · iexact H8
  isplitl [HS0]; · iexact HS0
  isplitl [HS1]; · iexact HS1
  iintro ⟨H6, H7, H8, HS0, HS1⟩
  rw [wp_pure]
  imodintro
  iapply Hk
  (isplitl [H0]; · iexact H0); (isplitl [H1]; · iexact H1); (isplitl [H2]; · iexact H2); (isplitl [H3]; · iexact H3); (isplitl [H4]; · iexact H4); (isplitl [H5]; · iexact H5)
  isplitl [H6]; · iexact H6
  isplitl [H7]; · iexact H7
  isplitl [H8]; · iexact H8
  isplitl [HS0]; · iexact HS0
  isplitl [HS1]; · iexact HS1
  isplitl [HT0]; · iexact HT0
  iexact HT1

end Cert.KernelIdeal.Hand
-- ==== Proof.Hand.Steps.lean ====
/- The scratch arrays of the head kernel after one grid point, read at an index. -/
module

public import proofs.«01_k».proof.Proof.Hand.BodyRun
public import Idealize.ShloMosaic.Lib.PointwiseCore

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- Lane `ln` of the results of the tile that holds row `r`, for the block of grid point `i`. -/
def laneAt (i : grid0.Coords) (x0 : Vec F S512x8192 .fp8e4m3) (x1 : Vec F S1x512 .f32) (x2 : Vec F S2688x128 .i32)
    (x3 : Vec F S2688x1 .i32) (x4 : Vec F S2688x1 .f32) (x5 : Vec F S2688x8192 .fp8e4m3) (ln : Fin 128) (r : Fin 2688) : F .f32 :=
  tileAt i (448 * (r.val / 448)) (by omega) x0 x1 x2 x3 x4 x5 (ix2 ln ⟨r.val % 448, Nat.mod_lt _ (by decide)⟩)

theorem laneAt_of (i : grid0.Coords) (x0 : Vec F S512x8192 .fp8e4m3) (x1 : Vec F S1x512 .f32) (x2 : Vec F S2688x128 .i32)
    (x3 : Vec F S2688x1 .i32) (x4 : Vec F S2688x1 .f32) (x5 : Vec F S2688x8192 .fp8e4m3) (ln : Fin 128) (o : ℕ) (ho : o + 448 ≤ 2688) (q : ℕ) (hq : o = 448 * q)
    (k : Fin 448) (r : Fin 2688) (hr : r.val = o + k.val) :
    tileAt i o ho x0 x1 x2 x3 x4 x5 (ix2 ln k) = laneAt i x0 x1 x2 x3 x4 x5 ln r := by
  have h1 : r.val / 448 = q := by omega
  have h2 : r.val % 448 = k.val := by omega
  unfold laneAt
  subst hq
  congr 1
  · simp only [h1]
  · simp only [h2]

theorem rowV_apply (b : FVec F S128x448 .f32) (k : Fin 448) : rowV b (ix2 (0 : Fin 1) k) = b (ix2 (0 : Fin 128) k) := by
  pointwise [rowV]

theorem rowT_apply (b : FVec F S128x448 .f32) (old : FVec F S1x448 .f32) (k : Fin 448) :
    rowT b old (ix2 (0 : Fin 1) k) = FloatOps.maximumf (old (ix2 (0 : Fin 1) k)) (b (ix2 (1 : Fin 128) k)) := by
  pointwise [rowT]

theorem point_word (i : grid0.Coords) : (Scalar.indexCast (BitVec.ofNat 32 (i 0).val)).toNat = (i 0).val := by
  have : (i 0).val < 63 := (i 0).isLt
  simp only [Scalar.indexCast, BitVec.toNat_ofNat]
  omega

theorem next0_apply (i : grid0.Coords) (o : ℕ) (b : FVec F S128x448 .f32) (d : Vec F S64x2688 .f32) (j : Fin 64) (r : Fin 2688) :
    next0 i o b d (ix2 j r) = if h : j.val = (i 0).val ∧ o ≤ r.val ∧ r.val < o + 448 then b (ix2 (0 : Fin 128) ⟨r.val - o, by omega⟩) else d (ix2 j r) := by
  unfold next0 putBox
  have hp := point_word i
  by_cases h : j.val = (i 0).val ∧ o ≤ r.val ∧ r.val < o + 448
  · rw [dif_pos h, dif_pos]
    swap
    · intro a; fin_cases a
      · simp [rowOff, hp]; omega
      · simp [rowOff]; omega
    · refine (congrArg (rowV b) ?_).trans (rowV_apply b ⟨r.val - o, by omega⟩)
      funext a; fin_cases a
      · exact Subsingleton.elim (α := Fin 1) _ _
      · rfl
  · rw [dif_neg h, dif_neg]
    intro hh
    have h0 := hh 0
    have h1 := hh 1
    simp [rowOff, hp] at h0 h1
    omega

theorem next1_apply (o : ℕ) (ho : o + 448 ≤ 2688) (b : FVec F S128x448 .f32) (d : Vec F S1x2688 .f32) (r : Fin 2688) :
    next1 o ho b d (ix2 (0 : Fin 1) r) = if h : o ≤ r.val ∧ r.val < o + 448 then
      FloatOps.maximumf (d (ix2 (0 : Fin 1) r)) (b (ix2 (1 : Fin 128) ⟨r.val - o, by omega⟩)) else d (ix2 (0 : Fin 1) r) := by
  unfold next1 putBox
  by_cases h : o ≤ r.val ∧ r.val < o + 448
  · rw [dif_pos h, dif_pos]
    swap
    · intro a; fin_cases a
      · simp
      · simp; omega
    · refine (congrArg (rowT b _) ?_).trans ((rowT_apply b _ ⟨r.val - o, by omega⟩).trans ?_)
      · funext a; fin_cases a
        · exact Subsingleton.elim (α := Fin 1) _ _
        · rfl
      · congr 1
        refine View.ld_unit_apply_of _ _ _ _ _ _ fun a => ?_
        fin_cases a
        · rfl
        · show r.val = o + (r.val - o); omega
  · rw [dif_neg h, dif_neg]
    intro hh
    have h1 := hh 1
    simp at h1
    omega

theorem block0_apply (i : grid0.Coords) (x0 : Vec F S512x8192 .fp8e4m3) (x1 : Vec F S1x512 .f32) (x2 : Vec F S2688x128 .i32)
    (x3 : Vec F S2688x1 .i32) (x4 : Vec F S2688x1 .f32) (x5 : Vec F S2688x8192 .fp8e4m3) (d : Vec F S64x2688 .f32) (j : Fin 64) (r : Fin 2688) :
    block0 i x0 x1 x2 x3 x4 x5 d (ix2 j r) = if j.val = (i 0).val then laneAt i x0 x1 x2 x3 x4 x5 0 r else d (ix2 j r) := by
  unfold block0
  simp only [next0_apply]
  by_cases h : j.val = (i 0).val
  · rw [if_pos h]
    have hr := r.isLt
    by_cases h5 : 2240 ≤ r.val
    · rw [dif_pos (by omega)]; exact laneAt_of i _ _ _ _ _ _ 0 2240 _ 5 rfl _ r (by simp; omega)
    rw [dif_neg (by omega)]
    by_cases h4 : 1792 ≤ r.val
    · rw [dif_pos (by omega)]; exact laneAt_of i _ _ _ _ _ _ 0 1792 _ 4 rfl _ r (by simp; omega)
    rw [dif_neg (by omega)]
    by_cases h3 : 1344 ≤ r.val
    · rw [dif_pos (by omega)]; exact laneAt_of i _ _ _ _ _ _ 0 1344 _ 3 rfl _ r (by simp; omega)
    rw [dif_neg (by omega)]
    by_cases h2 : 896 ≤ r.val
    · rw [dif_pos (by omega)]; exact laneAt_of i _ _ _ _ _ _ 0 896 _ 2 rfl _ r (by simp; omega)
    rw [dif_neg (by omega)]
    by_cases h1 : 448 ≤ r.val
    · rw [dif_pos (by omega)]; exact laneAt_of i _ _ _ _ _ _ 0 448 _ 1 rfl _ r (by simp; omega)
    rw [dif_neg (by omega), dif_pos (by omega)]
    exact laneAt_of i _ _ _ _ _ _ 0 0 _ 0 rfl _ r (by simp)
  · rw [if_neg h]
    simp only [h, false_and, dite_false]

theorem block1_apply (i : grid0.Coords) (x0 : Vec F S512x8192 .fp8e4m3) (x1 : Vec F S1x512 .f32) (x2 : Vec F S2688x128 .i32)
    (x3 : Vec F S2688x1 .i32) (x4 : Vec F S2688x1 .f32) (x5 : Vec F S2688x8192 .fp8e4m3) (d : Vec F S1x2688 .f32) (r : Fin 2688) :
    block1 i x0 x1 x2 x3 x4 x5 d (ix2 (0 : Fin 1) r) = FloatOps.maximumf (d (ix2 (0 : Fin 1) r)) (laneAt i x0 x1 x2 x3 x4 x5 1 r) := by
  unfold block1
  simp only [next1_apply]
  have hr := r.isLt
  by_cases h5 : 2240 ≤ r.val
  · rw [dif_pos (by omega), dif_neg (by omega), dif_neg (by omega), dif_neg (by omega), dif_neg (by omega), dif_neg (by omega)]; exact congrArg _ (laneAt_of i _ _ _ _ _ _ 1 2240 _ 5 rfl _ r (by simp; omega))
  rw [dif_neg (by omega)]
  by_cases h4 : 1792 ≤ r.val
  · rw [dif_pos (by omega), dif_neg (by omega), dif_neg (by omega), dif_neg (by omega), dif_neg (by omega)]; exact congrArg _ (laneAt_of i _ _ _ _ _ _ 1 1792 _ 4 rfl _ r (by simp; omega))
  rw [dif_neg (by omega)]
  by_cases h3 : 1344 ≤ r.val
  · rw [dif_pos (by omega), dif_neg (by omega), dif_neg (by omega), dif_neg (by omega)]; exact congrArg _ (laneAt_of i _ _ _ _ _ _ 1 1344 _ 3 rfl _ r (by simp; omega))
  rw [dif_neg (by omega)]
  by_cases h2 : 896 ≤ r.val
  · rw [dif_pos (by omega), dif_neg (by omega), dif_neg (by omega)]; exact congrArg _ (laneAt_of i _ _ _ _ _ _ 1 896 _ 2 rfl _ r (by simp; omega))
  rw [dif_neg (by omega)]
  by_cases h1 : 448 ≤ r.val
  · rw [dif_pos (by omega), dif_neg (by omega)]; exact congrArg _ (laneAt_of i _ _ _ _ _ _ 1 448 _ 1 rfl _ r (by simp; omega))
  rw [dif_neg (by omega)]
  rw [dif_pos (by omega)]; exact congrArg _ (laneAt_of i _ _ _ _ _ _ 1 0 _ 0 rfl _ r (by simp))

end Cert.KernelIdeal.Hand
-- ==== Proof.Hand.Run.lean ====
/- The head call as a whole: what the scratch arrays hold between the grid points, and the launch. -/
module

public import proofs.«01_k».proof.Proof.Hand.Steps
public import Idealize.ShloMosaic.Lib.Claim

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

local notation "𝕄" => MT nD τ sig Unit (Elt F) ℕ (UR sig nD τ) ℕ

/-- Grid point number `j`. -/
def pt (hO : Ok m) (j : Fin 63) : Fin (cfgM m hO).N := ⟨j.val, lt_of_lt_of_eq j.isLt (show 63 = (cfgM m hO).N from N_0.symm)⟩

/-- The flag word of block `t`, and lane `ln` of the results for row `r` from the blocks staged at point `t`. -/
def flag (c : Dev nD) (hO : Ok m) (t : Fin (cfgM m hO).N) : BitVec 32 := flagAt c (grid0.coords t) (tbl m 1)
def lane (c : Dev nD) (hO : Ok m) (t : Fin (cfgM m hO).N) (ln : Fin 128) (r : Fin 2688) : F .f32 :=
  laneAt (grid0.coords t) (iblk m hO c 0 t) (iblk m hO c 1 t) (iblk m hO c 2 t) (iblk m hO c 3 t) (iblk m hO c 4 t) (iblk m hO c 5 t) ln r

/-- The log-sum-exp of block `j` at row `r`, as the kernel keeps it: the lowest value where the block has no legal word. -/
def lseAt (c : Dev nD) (hO : Ok m) (j : Fin 63) (r : Fin 2688) : F .f32 :=
  if flag m c hO (pt m hO j) = 0#32 then Scalar.ofBits .f32 0xFF800000#32 else lane m c hO (pt m hO j) 0 r

/-- The target logit of row `r` after the first `n` blocks. -/
def tgtAt (c : Dev nD) (hO : Ok m) (r : Fin 2688) : ℕ → F .f32
  | 0 => Scalar.ofBits .f32 0xFF800000#32
  | n + 1 => if h : n < 63 then (if flag m c hO (pt m hO ⟨n, h⟩) = 0#32 then tgtAt c hO r n
      else FloatOps.maximumf (tgtAt c hO r n) (lane m c hO (pt m hO ⟨n, h⟩) 1 r)) else tgtAt c hO r n

/-- The two scratch arrays after the last point, as far as they are read. -/
def endLse (c : Dev nD) (hO : Ok m) : Vec F S63x2688 .f32 := fun y => lseAt m c hO (y 0) (y 1)
def endTgt (c : Dev nD) (hO : Ok m) : Vec F S1x2688 .f32 := fun y => tgtAt m c hO (y 1) 63

/-- What the scratch arrays hold before point `n`. -/
def Inv (c : Dev nD) (hO : Ok m) (n : ℕ) (d0 : Vec F S64x2688 .f32) (d1 : Vec F S1x2688 .f32) : Prop :=
  (∀ (j : Fin 63) (r : Fin 2688), j.val < n → d0 (ix2 (⟨j.val, by omega⟩ : Fin 64) r) = lseAt m c hO j r)
    ∧ (0 < n → ∀ r : Fin 2688, d1 (ix2 (0 : Fin 1) r) = tgtAt m c hO r n)

theorem Inv_zero (c : Dev nD) (hO : Ok m) (d0 : Vec F S64x2688 .f32) (d1 : Vec F S1x2688 .f32) : Inv m c hO 0 d0 d1 :=
  ⟨fun _ _ h => absurd h (Nat.not_lt_zero _), fun h => absurd h (Nat.lt_irrefl _)⟩

theorem coords0 (hO : Ok m) (t : Fin (cfgM m hO).N) : (grid0.coords t 0).val = t.val := by
  have hN : t.val < 63 := lt_of_lt_of_eq t.isLt (show (cfgM m hO).N = 63 from N_0)
  have e0 : (grid0.coords t 0).val = t.val / 1 % 63 := Pipeline.Grid.coords_val (G := grid0) t 0 (by decide) rfl
  omega

theorem dead0_apply (i : grid0.Coords) (d : Vec F S64x2688 .f32) (j : Fin 64) (r : Fin 2688) :
    dead0 i d (ix2 j r) = if j.val = (i 0).val then Scalar.ofBits .f32 0xFF800000#32 else d (ix2 j r) := by
  unfold dead0 putBox
  have hp := point_word i
  by_cases h : j.val = (i 0).val
  · rw [if_pos h, dif_pos]
    swap
    · intro a; fin_cases a
      · simp [k0_off2, hp]; omega
      · simp [k0_off2]
    · unfold k0_pay2; rfl
  · rw [if_neg h, dif_neg]
    intro hh
    have h0 := hh 0
    simp [k0_off2, hp] at h0
    omega

theorem start1_apply (i : grid0.Coords) (d : Vec F S1x2688 .f32) (r : Fin 2688) :
    start1 i d (ix2 (0 : Fin 1) r) = if cond0_0 i then Scalar.ofBits .f32 0xFF800000#32 else d (ix2 (0 : Fin 1) r) := by
  unfold start1; split <;> rfl

/-- One point takes the invariant to the next. -/
theorem Inv_step (c : Dev nD) (hO : Ok m) (t : Fin (cfgM m hO).N) (d0 : Vec F S64x2688 .f32) (d1 : Vec F S1x2688 .f32)
    (x0 : Vec F S512x8192 .fp8e4m3) (x1 : Vec F S1x512 .f32) (x2 : Vec F S2688x128 .i32) (x3 : Vec F S2688x1 .i32) (x4 : Vec F S2688x1 .f32) (x5 : Vec F S2688x8192 .fp8e4m3)
    (hx : ∀ ln r, laneAt (grid0.coords t) x0 x1 x2 x3 x4 x5 ln r = lane m c hO t ln r) (h : Inv m c hO t.val d0 d1) :
    Inv m c hO (t.val + 1) (step0 (grid0.coords t) (flag m c hO t) x0 x1 x2 x3 x4 x5 d0)
      (step1 (grid0.coords t) (flag m c hO t) x0 x1 x2 x3 x4 x5 d1) := by
  have hN : t.val < 63 := lt_of_lt_of_eq t.isLt (show (cfgM m hO).N = 63 from N_0)
  have hc := coords0 m hO t
  have hpt : pt m hO ⟨t.val, hN⟩ = t := rfl
  have hs : ∀ r : Fin 2688, start1 (grid0.coords t) d1 (ix2 (0 : Fin 1) r) = tgtAt m c hO r t.val := by
    intro r
    rw [start1_apply]
    by_cases hz : t.val = 0
    · rw [if_pos ((hcond0_0 t).mpr (by omega)), hz]; rfl
    · rw [if_neg (fun e => hz (by have := (hcond0_0 t).mp e; omega))]
      exact h.2 (Nat.pos_of_ne_zero hz) r
  refine ⟨fun j r hj => ?_, fun _ r => ?_⟩
  · unfold step0
    by_cases hf : flag m c hO t = 0#32
    · rw [if_pos hf, dead0_apply]
      simp only [hc]
      by_cases he : j.val = t.val
      · obtain rfl : j = ⟨t.val, hN⟩ := Fin.ext he
        rw [if_pos rfl]; unfold lseAt; rw [hpt, if_pos hf]
      · rw [if_neg he]; exact h.1 j r (by omega)
    · rw [if_neg hf, block0_apply]
      simp only [hc]
      by_cases he : j.val = t.val
      · obtain rfl : j = ⟨t.val, hN⟩ := Fin.ext he
        rw [if_pos rfl]; unfold lseAt; rw [hpt, if_neg hf, hx]
      · rw [if_neg he]; exact h.1 j r (by omega)
  · unfold step1
    rw [tgtAt, dif_pos hN, hpt]
    by_cases hf : flag m c hO t = 0#32
    · rw [if_pos hf, if_pos hf, hs]
    · rw [if_neg hf, if_neg hf, block1_apply, hs, hx]

/-- After the last point the arrays read are the named ones. -/
theorem Inv_end (c : Dev nD) (hO : Ok m) (d0 : Vec F S64x2688 .f32) (d1 : Vec F S1x2688 .f32) (h : Inv m c hO 63 d0 d1) :
    rows63 d0 = endLse m c hO ∧ d1 = endTgt m c hO := by
  constructor
  · funext y
    have e := h.1 (y 0) (y 1) (y 0).isLt
    refine (View.ld_unit_apply_of _ _ _ _ y (ix2 (⟨(y 0).val, lt_of_lt_of_le (y 0).isLt (by decide)⟩ : Fin 64) (y 1 : Fin 2688)) fun a => ?_).trans e
    fin_cases a
    · exact (Nat.zero_add _).symm
    · exact (Nat.zero_add _).symm
  · funext y
    obtain ⟨a, b, rfl⟩ : ∃ (a : Fin 1) (b : Fin 2688), y = ix2 a b := ⟨y 0, y 1, by funext k; fin_cases k <;> rfl⟩
    obtain rfl : a = 0 := Subsingleton.elim _ _
    exact h.2 (by decide) b

/-- The three results. -/
def res6 (c : Dev nD) (hO : Ok m) : Vec F S1x2688 .f32 := k0_pay5 (endLse m c hO)
def res7 (c : Dev nD) (hO : Ok m) : Vec F S1x2688 .f32 := k0_pay6 (endLse m c hO) (endTgt m c hO)
def res8 (c : Dev nD) (hO : Ok m) : Vec F S63x2688 .f32 := k0_pay7 (endLse m c hO)

/-- The invariant before point `n`: the scratch arrays, the generator register, the tables. -/
def PhiS (hO : Ok m) (c : Dev nD) (n : ℕ) : sProp 𝕄 :=
  iprop(iprop(iprop(∃ d0, ∃ d1, ⌜Inv m c hO n d0 d1⌝ ∗ owns (c : Thread nD τ) scM0_0 fullShare d0 ∗ owns (c : Thread nD τ) scM0_1 fullShare d1) ∗ (∃ r, prngReg c r)) ∗ Pipeline.ΦT pre0 (tbl m) c)

/-- The proof data of the pipeline on core `c`. -/
def dats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => iblk m hO c 4 t
    | ⟨5, _⟩ => iblk m hO c 5 t
    | ⟨6, _⟩ => res6 m c hO
    | ⟨7, _⟩ => res7 m c hO
    | ⟨8, _⟩ => res8 m c hO
  Φ t := PhiS m hO c t.val
  q _ := fullShare
  owed _ := 0

theorem A_eq (hO : Ok m) (c : Dev nD) (w : Fin (cfgM m hO).W) : (dats m hO 0 c).A w = V m c (Pipeline.arrRef spec0 w) := by
  dsimp only [dats]

theorem after0_0 (hO : Ok m) (c : Dev nD) (t : Fin (cfgM m hO).N) : (dats m hO 0 c).after 0 t = iblk m hO c 0 t := by dsimp only [dats]; try rfl
theorem after0_1 (hO : Ok m) (c : Dev nD) (t : Fin (cfgM m hO).N) : (dats m hO 0 c).after 1 t = iblk m hO c 1 t := by dsimp only [dats]; try rfl
theorem after0_2 (hO : Ok m) (c : Dev nD) (t : Fin (cfgM m hO).N) : (dats m hO 0 c).after 2 t = iblk m hO c 2 t := by dsimp only [dats]; try rfl
theorem after0_3 (hO : Ok m) (c : Dev nD) (t : Fin (cfgM m hO).N) : (dats m hO 0 c).after 3 t = iblk m hO c 3 t := by dsimp only [dats]; try rfl
theorem after0_4 (hO : Ok m) (c : Dev nD) (t : Fin (cfgM m hO).N) : (dats m hO 0 c).after 4 t = iblk m hO c 4 t := by dsimp only [dats]; try rfl
theorem after0_5 (hO : Ok m) (c : Dev nD) (t : Fin (cfgM m hO).N) : (dats m hO 0 c).after 5 t = iblk m hO c 5 t := by dsimp only [dats]; try rfl
theorem after0_6 (hO : Ok m) (c : Dev nD) (t : Fin (cfgM m hO).N) : (dats m hO 0 c).after 6 t = res6 m c hO := by dsimp only [dats]; try rfl
theorem after0_7 (hO : Ok m) (c : Dev nD) (t : Fin (cfgM m hO).N) : (dats m hO 0 c).after 7 t = res7 m c hO := by dsimp only [dats]; try rfl
theorem after0_8 (hO : Ok m) (c : Dev nD) (t : Fin (cfgM m hO).N) : (dats m hO 0 c).after 8 t = res8 m c hO := by dsimp only [dats]; try rfl

theorem before0_0 (hO : Ok m) (c : Dev nD) (t : Fin (cfgM m hO).N) (d) : (dats m hO 0 c).before 0 t d = iblk m hO c 0 t :=
  before0_0_of m hO (dats m hO 0 c) (A_eq m hO c 0) (after0_0 m hO c) t d
theorem before0_1 (hO : Ok m) (c : Dev nD) (t : Fin (cfgM m hO).N) (d) : (dats m hO 0 c).before 1 t d = iblk m hO c 1 t :=
  before0_1_of m hO (dats m hO 0 c) (A_eq m hO c 1) (after0_1 m hO c) t d
theorem before0_2 (hO : Ok m) (c : Dev nD) (t : Fin (cfgM m hO).N) (d) : (dats m hO 0 c).before 2 t d = iblk m hO c 2 t :=
  before0_2_of m hO (dats m hO 0 c) (A_eq m hO c 2) (after0_2 m hO c) t d
theorem before0_3 (hO : Ok m) (c : Dev nD) (t : Fin (cfgM m hO).N) (d) : (dats m hO 0 c).before 3 t d = iblk m hO c 3 t :=
  before0_3_of m hO (dats m hO 0 c) (A_eq m hO c 3) (after0_3 m hO c) t d
theorem before0_4 (hO : Ok m) (c : Dev nD) (t : Fin (cfgM m hO).N) (d) : (dats m hO 0 c).before 4 t d = iblk m hO c 4 t :=
  before0_4_of m hO (dats m hO 0 c) (A_eq m hO c 4) (after0_4 m hO c) t d
theorem before0_5 (hO : Ok m) (c : Dev nD) (t : Fin (cfgM m hO).N) (d) : (dats m hO 0 c).before 5 t d = iblk m hO c 5 t :=
  before0_5_of m hO (dats m hO 0 c) (A_eq m hO c 5) (after0_5 m hO c) t d

/-- What the body is called with at point `t`, -/
def bodyPre (hO : Ok m) (c : Dev nD) (t : Fin (cfgM m hO).N) : sProp 𝕄 :=
  iprop((dats m hO 0 c).Φ t.castSucc ∗ (dats m hO 0 c).owesAt () t.castSucc
    ∗ (∃ d, owns (c : Thread nD τ) (ms0_0 m hO t) fullShare ((dats m hO 0 c).before 0 t d))
    ∗ (∃ d, owns (c : Thread nD τ) (ms0_1 m hO t) fullShare ((dats m hO 0 c).before 1 t d))
    ∗ (∃ d, owns (c : Thread nD τ) (ms0_2 m hO t) fullShare ((dats m hO 0 c).before 2 t d))
    ∗ (∃ d, owns (c : Thread nD τ) (ms0_3 m hO t) fullShare ((dats m hO 0 c).before 3 t d))
    ∗ (∃ d, owns (c : Thread nD τ) (ms0_4 m hO t) fullShare ((dats m hO 0 c).before 4 t d))
    ∗ (∃ d, owns (c : Thread nD τ) (ms0_5 m hO t) fullShare ((dats m hO 0 c).before 5 t d))
    ∗ (∃ d, owns (c : Thread nD τ) (ms0_6 m hO t) fullShare ((dats m hO 0 c).before 6 t d))
    ∗ (∃ d, owns (c : Thread nD τ) (ms0_7 m hO t) fullShare ((dats m hO 0 c).before 7 t d))
    ∗ (∃ d, owns (c : Thread nD τ) (ms0_8 m hO t) fullShare ((dats m hO 0 c).before 8 t d)))

/-- and what it returns. -/
def bodyPost (hO : Ok m) (c : Dev nD) (t : Fin (cfgM m hO).N) : sProp 𝕄 :=
  iprop((dats m hO 0 c).Φ t.succ ∗ (dats m hO 0 c).owesAt () t.succ
    ∗ (dats m hO 0 c).leavesExact 0 t
    ∗ (dats m hO 0 c).leavesExact 1 t
    ∗ (dats m hO 0 c).leavesExact 2 t
    ∗ (dats m hO 0 c).leavesExact 3 t
    ∗ (dats m hO 0 c).leavesExact 4 t
    ∗ (dats m hO 0 c).leavesExact 5 t
    ∗ (dats m hO 0 c).leavesExact 6 t
    ∗ (dats m hO 0 c).leavesExact 7 t
    ∗ (dats m hO 0 c).leavesExact 8 t)

theorem atLast_pos {α : Type} (i : grid0.Coords) (h : cond0_3 i) (v e : α) : atLast i v e = v := by unfold atLast; rw [if_pos h]
theorem atLast_neg {α : Type} (i : grid0.Coords) (h : ¬ cond0_3 i) (v e : α) : atLast i v e = e := by unfold atLast; rw [if_neg h]

/-- Result window 6: untouched before the last point, at the result at the last. -/
theorem leaves_mid6 (hO : Ok m) (c : Dev nD) (t : Fin (cfgM m hO).N) (h : t.val % 63 ≠ 62) :
    (dats m hO 0 c).leavesExact 6 t = iprop(∃ d, owns (c : Thread nD τ) (ms0_6 m hO t) fullShare ((dats m hO 0 c).before 6 t d)) := by
  refine (dats m hO 0 c).leavesExact_idle 6 t ?_ ?_
  · show (!(k0_cond4 (grid0.coords t) == 1#1)) = true
    have := fun e => h ((hcond0_3 t).mp e)
    simpa using this
  · exact Bool.eq_false_iff.mpr fun e => h ((flush0_6 (adm m hO) t).mp e)
theorem leaves_end6 (hO : Ok m) (c : Dev nD) (t : Fin (cfgM m hO).N) (h : t.val % 63 = 62) :
    (dats m hO 0 c).leavesExact 6 t = owns (c : Thread nD τ) (ms0_6 m hO t) fullShare (res6 m c hO) := by
  rw [← after0_6 m hO c t]
  have hi : (cfgM m hO).idle 6 (grid0.coords t) = false := by
    show (!(k0_cond4 (grid0.coords t) == 1#1)) = false
    have : k0_cond4 (grid0.coords t) = 1#1 := (hcond0_3 t).mpr h
    simp [this]
  unfold Dat.leavesExact; rw [hi]; try rfl
theorem out6 (hO : Ok m) (c : Dev nD) (t : Fin (cfgM m hO).N) (v) (e) (hv : t.val % 63 = 62 → v = res6 m c hO) :
    owns (c : Thread nD τ) (ms0_6 m hO t) fullShare (atLast (grid0.coords t) v ((dats m hO 0 c).before 6 t e)) ⊢ (dats m hO 0 c).leavesExact 6 t := by
  by_cases h : t.val % 63 = 62
  · rw [leaves_end6 m hO c t h, ← hv h]
    exact BIBase.Entails.of_eq (congrArg (owns (c : Thread nD τ) (ms0_6 m hO t) fullShare) (atLast_pos _ ((hcond0_3 t).mpr h) v _))
  · rw [leaves_mid6 m hO c t h]
    refine (BIBase.Entails.of_eq (congrArg (owns (c : Thread nD τ) (ms0_6 m hO t) fullShare) (atLast_neg _ (fun e => h ((hcond0_3 t).mp e)) v _))).trans ?_
    iintro H; iexists e; iexact H
/-- Result window 7: untouched before the last point, at the result at the last. -/
theorem leaves_mid7 (hO : Ok m) (c : Dev nD) (t : Fin (cfgM m hO).N) (h : t.val % 63 ≠ 62) :
    (dats m hO 0 c).leavesExact 7 t = iprop(∃ d, owns (c : Thread nD τ) (ms0_7 m hO t) fullShare ((dats m hO 0 c).before 7 t d)) := by
  refine (dats m hO 0 c).leavesExact_idle 7 t ?_ ?_
  · show (!(k0_cond4 (grid0.coords t) == 1#1)) = true
    have := fun e => h ((hcond0_3 t).mp e)
    simpa using this
  · exact Bool.eq_false_iff.mpr fun e => h ((flush0_7 (adm m hO) t).mp e)
theorem leaves_end7 (hO : Ok m) (c : Dev nD) (t : Fin (cfgM m hO).N) (h : t.val % 63 = 62) :
    (dats m hO 0 c).leavesExact 7 t = owns (c : Thread nD τ) (ms0_7 m hO t) fullShare (res7 m c hO) := by
  rw [← after0_7 m hO c t]
  have hi : (cfgM m hO).idle 7 (grid0.coords t) = false := by
    show (!(k0_cond4 (grid0.coords t) == 1#1)) = false
    have : k0_cond4 (grid0.coords t) = 1#1 := (hcond0_3 t).mpr h
    simp [this]
  unfold Dat.leavesExact; rw [hi]; try rfl
theorem out7 (hO : Ok m) (c : Dev nD) (t : Fin (cfgM m hO).N) (v) (e) (hv : t.val % 63 = 62 → v = res7 m c hO) :
    owns (c : Thread nD τ) (ms0_7 m hO t) fullShare (atLast (grid0.coords t) v ((dats m hO 0 c).before 7 t e)) ⊢ (dats m hO 0 c).leavesExact 7 t := by
  by_cases h : t.val % 63 = 62
  · rw [leaves_end7 m hO c t h, ← hv h]
    exact BIBase.Entails.of_eq (congrArg (owns (c : Thread nD τ) (ms0_7 m hO t) fullShare) (atLast_pos _ ((hcond0_3 t).mpr h) v _))
  · rw [leaves_mid7 m hO c t h]
    refine (BIBase.Entails.of_eq (congrArg (owns (c : Thread nD τ) (ms0_7 m hO t) fullShare) (atLast_neg _ (fun e => h ((hcond0_3 t).mp e)) v _))).trans ?_
    iintro H; iexists e; iexact H
/-- Result window 8: untouched before the last point, at the result at the last. -/
theorem leaves_mid8 (hO : Ok m) (c : Dev nD) (t : Fin (cfgM m hO).N) (h : t.val % 63 ≠ 62) :
    (dats m hO 0 c).leavesExact 8 t = iprop(∃ d, owns (c : Thread nD τ) (ms0_8 m hO t) fullShare ((dats m hO 0 c).before 8 t d)) := by
  refine (dats m hO 0 c).leavesExact_idle 8 t ?_ ?_
  · show (!(k0_cond4 (grid0.coords t) == 1#1)) = true
    have := fun e => h ((hcond0_3 t).mp e)
    simpa using this
  · exact Bool.eq_false_iff.mpr fun e => h ((flush0_8 (adm m hO) t).mp e)
theorem leaves_end8 (hO : Ok m) (c : Dev nD) (t : Fin (cfgM m hO).N) (h : t.val % 63 = 62) :
    (dats m hO 0 c).leavesExact 8 t = owns (c : Thread nD τ) (ms0_8 m hO t) fullShare (res8 m c hO) := by
  rw [← after0_8 m hO c t]
  have hi : (cfgM m hO).idle 8 (grid0.coords t) = false := by
    show (!(k0_cond4 (grid0.coords t) == 1#1)) = false
    have : k0_cond4 (grid0.coords t) = 1#1 := (hcond0_3 t).mpr h
    simp [this]
  unfold Dat.leavesExact; rw [hi]; try rfl
theorem out8 (hO : Ok m) (c : Dev nD) (t : Fin (cfgM m hO).N) (v) (e) (hv : t.val % 63 = 62 → v = res8 m c hO) :
    owns (c : Thread nD τ) (ms0_8 m hO t) fullShare (atLast (grid0.coords t) v ((dats m hO 0 c).before 8 t e)) ⊢ (dats m hO 0 c).leavesExact 8 t := by
  by_cases h : t.val % 63 = 62
  · rw [leaves_end8 m hO c t h, ← hv h]
    exact BIBase.Entails.of_eq (congrArg (owns (c : Thread nD τ) (ms0_8 m hO t) fullShare) (atLast_pos _ ((hcond0_3 t).mpr h) v _))
  · rw [leaves_mid8 m hO c t h]
    refine (BIBase.Entails.of_eq (congrArg (owns (c : Thread nD τ) (ms0_8 m hO t) fullShare) (atLast_neg _ (fun e => h ((hcond0_3 t).mp e)) v _))).trans ?_
    iintro H; iexists e; iexact H

set_option maxHeartbeats 4000000 in
/-- The body at any point. -/
theorem sound_body (hO : Ok m) (c : Dev nD) (t : Fin (cfgM m hO).N) :
    bodyPre m hO c t ⊢ wp frame (wpE (defs₀ (F := F)) Variants.none c none) Set.univ (bodyAt0 (adm m hO) t) (fun _ => bodyPost m hO c t) := by
  unfold bodyPre bodyPost bodyAt0
  simp only [before0_0, before0_1, before0_2, before0_3, before0_4, before0_5]
  rw [show (dats m hO 0 c).owesAt () t.succ = (dats m hO 0 c).owesAt () t.castSucc from rfl]
  rw [show (dats m hO 0 c).Φ t.castSucc = PhiS m hO c t.val from rfl, show (dats m hO 0 c).Φ t.succ = PhiS m hO c (t.val + 1) from rfl]
  unfold PhiS
  rw [PhiT0_eq]
  have hN : t.val < 63 := lt_of_lt_of_eq t.isLt (show (cfgM m hO).N = 63 from N_0)
  rw [show (dats m hO 0 c).leavesExact 0 t = owns (c : Thread nD τ) (ms0_0 m hO t) fullShare ((dats m hO 0 c).after 0 t) from by
    unfold Dat.leavesExact; rw [liveAt0_0 m hO t]; try rfl, after0_0]
  rw [show (dats m hO 0 c).leavesExact 1 t = owns (c : Thread nD τ) (ms0_1 m hO t) fullShare ((dats m hO 0 c).after 1 t) from by
    unfold Dat.leavesExact; rw [liveAt0_1 m hO t]; try rfl, after0_1]
  rw [show (dats m hO 0 c).leavesExact 2 t = owns (c : Thread nD τ) (ms0_2 m hO t) fullShare ((dats m hO 0 c).after 2 t) from by
    unfold Dat.leavesExact; rw [liveAt0_2 m hO t]; try rfl, after0_2]
  rw [show (dats m hO 0 c).leavesExact 3 t = owns (c : Thread nD τ) (ms0_3 m hO t) fullShare ((dats m hO 0 c).after 3 t) from by
    unfold Dat.leavesExact; rw [liveAt0_3 m hO t]; try rfl, after0_3]
  rw [show (dats m hO 0 c).leavesExact 4 t = owns (c : Thread nD τ) (ms0_4 m hO t) fullShare ((dats m hO 0 c).after 4 t) from by
    unfold Dat.leavesExact; rw [liveAt0_4 m hO t]; try rfl, after0_4]
  rw [show (dats m hO 0 c).leavesExact 5 t = owns (c : Thread nD τ) (ms0_5 m hO t) fullShare ((dats m hO 0 c).after 5 t) from by
    unfold Dat.leavesExact; rw [liveAt0_5 m hO t]; try rfl, after0_5]
  iintro ⟨⟨⟨⟨%d0, %d1, %hI, HS0, HS1⟩, Hg⟩, ⟨HT0, HT1⟩⟩, Ho, ⟨%e0, H0⟩, ⟨%e1, H1⟩, ⟨%e2, H2⟩, ⟨%e3, H3⟩, ⟨%e4, H4⟩, ⟨%e5, H5⟩, ⟨%e6, H6⟩, ⟨%e7, H7⟩, ⟨%e8, H8⟩⟩
  have hI' := Inv_step m c hO t d0 d1 (iblk m hO c 0 t) (iblk m hO c 1 t) (iblk m hO c 2 t) (iblk m hO c 3 t) (iblk m hO c 4 t) (iblk m hO c 5 t) (fun _ _ => rfl) hI
  iapply body_run c (grid0.coords t) _ (hs0_0 m hO t) _ (hs0_1 m hO t) _ (hs0_2 m hO t) _ (hs0_3 m hO t) _ (hs0_4 m hO t) _ (hs0_5 m hO t) scM0_0 (Memref.isWhole_whole _) scM0_1 (Memref.isWhole_whole _) (iblk m hO c 0 t) (iblk m hO c 1 t) (iblk m hO c 2 t) (iblk m hO c 3 t) (iblk m hO c 4 t) (iblk m hO c 5 t) d0 d1 _ (hs0_6 m hO t) _ (hs0_7 m hO t) _ (hs0_8 m hO t) _ _ _ (tbl m 0) (tbl m 1) Set.univ
  (isplitl [H0]; · iexact H0); (isplitl [H1]; · iexact H1); (isplitl [H2]; · iexact H2); (isplitl [H3]; · iexact H3); (isplitl [H4]; · iexact H4); (isplitl [H5]; · iexact H5)
  isplitl [H6]; · iexact H6
  isplitl [H7]; · iexact H7
  isplitl [H8]; · iexact H8
  isplitl [HS0]; · iexact HS0
  isplitl [HS1]; · iexact HS1
  isplitl [HT0]; · iexact HT0
  isplitl [HT1]; · iexact HT1
  iintro ⟨H0, H1, H2, H3, H4, H5, H6, H7, H8, HS0, HS1, HT0, HT1⟩
  isplitl [HS0 HS1 Hg HT0 HT1]
  · isplitl [HS0 HS1 Hg]
    · isplitl [HS0 HS1]
      · iexists _; iexists _
        isplitr
        · ipureintro; exact hI'
        isplitl [HS0]; · iexact HS0
        iexact HS1
      iexact Hg
    isplitl [HT0]; · iexact HT0
    iexact HT1
  isplitl [Ho]; · iexact Ho
  (isplitl [H0]; · iexact H0); (isplitl [H1]; · iexact H1); (isplitl [H2]; · iexact H2); (isplitl [H3]; · iexact H3); (isplitl [H4]; · iexact H4); (isplitl [H5]; · iexact H5)
  have hq : t.val % 63 = 62 → _ := fun h => Inv_end m c hO _ _ ((show t.val + 1 = 63 by omega) ▸ hI')
  isplitl [H6]
  · iapply out6 m hO c t _ _ (fun h => congrArg k0_pay5 (hq h).1); iexact H6
  isplitl [H7]
  · iapply out7 m hO c t _ _ (fun h => congrArg₂ k0_pay6 (hq h).1 (hq h).2); iexact H7
  iapply out8 m hO c t _ _ (fun h => congrArg k0_pay7 (hq h).1); iexact H8

theorem defs₀_row (hO : Ok m) (t : Fin (cfgM m hO).N) :
    defs₀ (F := F) .tc (cfgM m hO).body ((cfgM m hO).bodyArgs t ((cfgM m hO).slots t)) = bodyAt0 (adm m hO) t := by
  unfold defs₀; rw [Defs.onTc_tc]

/-- The library's body obligation. -/
theorem body_obligation (hO : Ok m) (c : Dev nD) : BodyObligation (dats (F := F) m hO 0 c) (defs₀ (F := F)) Variants.none () Set.univ := fun t => by
  rw [bigSep_W0, bigSep_W0, defs₀_row m hO]
  exact sound_body m hO c t

theorem hin (hO : Ok m) (c : Dev nD) : iprop(Pipeline.ΦA spec0 c ∗ Pipeline.ΦT pre0 (tbl m) c) ⊢ (dats m hO 0 c).Φ 0 := by
  rw [show (dats m hO 0 c).Φ 0 = PhiS m hO c 0 from rfl, PhiA0_eq]
  unfold PhiS
  iintro ⟨⟨⟨⟨%d0, HS0⟩, ⟨%d1, HS1⟩⟩, Hg⟩, HT⟩
  isplitl [HS0 HS1 Hg]
  · isplitl [HS0 HS1]
    · iexists d0; iexists d1
      isplitr
      · ipureintro; exact Inv_zero m c hO d0 d1
      isplitl [HS0]; · iexact HS0
      iexact HS1
    iexact Hg
  iexact HT

theorem hout (hO : Ok m) (c : Dev nD) : (dats m hO 0 c).Φ (Fin.last (cfgM m hO).N) ⊢ Pipeline.ΦA spec0 c := by
  rw [show (dats m hO 0 c).Φ (Fin.last (cfgM m hO).N) = PhiS m hO c (cfgM m hO).N from rfl, PhiA0_eq]
  unfold PhiS
  iintro ⟨⟨⟨%d0, %d1, %hI, HS0, HS1⟩, Hg⟩, -⟩
  isplitl [HS0 HS1]
  · isplitl [HS0]
    · iexists _; iexact HS0
    iexists _; iexact HS1
  iexact Hg

set_option backward.isDefEq.respectTransparency.types false in
/-- The launch: every execution ends, the results of the call at the named values, every counter at zero. -/
theorem run_main (hO : Ok m) : θ_run defs (onTc (τ := τ) (main (F := F))) (s₀ m ρ) (fun r => Pipeline.FramePost (Pipeline.pin pcfgs fun _ => adm m hO) (dats m hO) 0 (V m) r ∧ r.2.sem = fun _ => 0) :=
  Pipeline.θ_run_frameP_track (Q' := _) pcfgs (fun _ => adm m hO) (dats m hO) (0 : Fin 1) launch0 defs₀ Variants.none m ρ main
    (hbody := fun c => (body_obligation m hO c).loose) (hshare := fun c => (dats m hO 0 c).share_full fun _ => rfl)
    (howed := fun _ _ => rfl) (V := V m) (hmain := hmain m Variants.none) (hA := A_eq m hO) (hpf := V_pre m) (hin := hin m hO) (hout := hout m hO)

end Cert.KernelIdeal.Hand
-- ==== Proof.Hand.Cummax.lean ====
/- A running maximum of 63 signed words: it never exceeds a bound of its terms, and is at least each of them. -/
module

public import Idealize.ShloMosaic.Lib.PointwiseCore
public import Idealize.ShloMosaic.Lib.ValueIdx

@[expose] public section

noncomputable section

namespace Cert.Words

open Idealize.ShloMosaic

theorem maxsi_toInt (x y : BitVec 32) : (IntOp.maxsi x y).toInt = max x.toInt y.toInt := by
  unfold IntOp.maxsi
  split
  · rename_i h; rw [BitVec.slt_iff_toInt_lt] at h; omega
  · rename_i h; rw [BitVec.slt_iff_toInt_lt] at h; omega

theorem toInt_small : ∀ n : Fin 63, (BitVec.ofNat 32 n.val).toInt = n.val := by decide

/-- A fold of the signed maximum stays below a bound of its start and its terms. -/
theorem foldl_le {α : Type} (l : List α) (g : α → BitVec 32) (B : ℤ) (v : BitVec 32) (hv : v.toInt ≤ B) (hg : ∀ a ∈ l, (g a).toInt ≤ B) :
    (l.foldl (fun r a => IntOp.maxsi r (g a)) v).toInt ≤ B := by
  induction l generalizing v with
  | nil => exact hv
  | cons a l ih =>
    refine ih _ ?_ fun b hb => hg b (List.mem_cons_of_mem _ hb)
    rw [maxsi_toInt]
    exact max_le hv (hg a (List.mem_cons_self ..))

/-- A fold of the signed maximum is at least its start, -/
theorem le_foldl_start {α : Type} (l : List α) (g : α → BitVec 32) (v : BitVec 32) : v.toInt ≤ (l.foldl (fun r a => IntOp.maxsi r (g a)) v).toInt := by
  induction l generalizing v with
  | nil => exact le_refl _
  | cons a l ih =>
    refine le_trans ?_ (ih _)
    rw [maxsi_toInt]
    exact le_max_left _ _

/-- and at least each term. -/
theorem le_foldl {α : Type} (l : List α) (g : α → BitVec 32) (v : BitVec 32) (a : α) (ha : a ∈ l) : (g a).toInt ≤ (l.foldl (fun r a => IntOp.maxsi r (g a)) v).toInt := by
  induction l generalizing v with
  | nil => exact absurd ha (List.not_mem_nil)
  | cons b l ih =>
    rcases List.mem_cons.mp ha with rfl | h
    · refine le_trans ?_ (le_foldl_start l g _)
      rw [maxsi_toInt]
      exact le_max_right _ _
    · exact ih _ h

variable {u : Shape} (x : IVec ⟨1, ![63]⟩ 32) (init : IVec u 32) (hu : 0 < u.numel)
  (h : (⟨1, ![63]⟩ : Shape).ReduceWindows (![63] : Fin 1 → Nat) ![1] ![62] ![0] ⟨1, ![63]⟩)

theorem cummax_le (j : (⟨1, ![63]⟩ : Shape).Idx) (B : ℤ) (hi : (init (Shape.Idx.first hu)).toInt ≤ B) (hx : ∀ i : (⟨1, ![63]⟩ : Shape).Idx, (i 0).val ≤ (j 0).val → (x i).toInt ≤ B) :
    (Host.reduceWindow IntOp.maxsi ![63] ![1] ![62] ![0] x init h hu j).toInt ≤ B := by
  unfold Host.reduceWindow
  refine foldl_le _ _ B _ hi fun n _ => ?_
  dsimp only
  split
  · refine hx _ ?_
    have hn : ((⟨1, ![63]⟩ : Shape).rowMajor.symm n 0).val < 63 := ((⟨1, ![63]⟩ : Shape).rowMajor.symm n 0).isLt
    show (j 0).val * 1 + ((⟨1, ![63]⟩ : Shape).rowMajor.symm n 0).val - 62 ≤ (j 0).val
    omega
  · exact hi

theorem le_cummax (j : (⟨1, ![63]⟩ : Shape).Idx) : (x j).toInt ≤ (Host.reduceWindow IntOp.maxsi ![63] ![1] ![62] ![0] x init h hu j).toInt := by
  unfold Host.reduceWindow
  have hj : (j 0).val < 63 := (j 0).isLt
  refine le_trans ?_ (le_foldl _ _ _ ((⟨1, ![63]⟩ : Shape).rowMajor (ix1 (⟨62, by decide⟩ : Fin 63))) (List.mem_finRange _))
  dsimp only
  have e : ((⟨1, ![63]⟩ : Shape).rowMajor.symm ((⟨1, ![63]⟩ : Shape).rowMajor (ix1 (⟨62, by decide⟩ : Fin 63)))) = ix1 (⟨62, by decide⟩ : Fin 63) :=
    Equiv.symm_apply_apply _ _
  rw [dif_pos]
  swap
  · intro a
    obtain rfl : a = 0 := Subsingleton.elim _ _
    have e0 := congrFun e 0
    have e1 : _ = 62 := congrArg Fin.val e0
    show 62 ≤ (j 0).val * 1 + _ ∧ (j 0).val * 1 + _ - 62 < 63
    rw [e1]
    omega
  refine le_of_eq (congrArg (fun i => (x i).toInt) (funext fun a => Fin.ext ?_))
  obtain rfl : a = 0 := Subsingleton.elim _ _
  have e1 : _ = 62 := congrArg Fin.val (congrFun e 0)
  show (j 0).val = (j 0).val * 1 + _ - 62
  rw [e1, Nat.mul_one, Nat.add_sub_cancel]

end Cert.Words
-- ==== Proof.Hand.Host.lean ====
/- The two tables the host computes for the head call: which blocks have a legal word, and the block each point fetches. -/
module

public import proofs.«01_k».proof.Proof.Hand.Kit
public import proofs.«01_k».proof.Proof.Hand.Cummax
public import Idealize.ShloMosaic.Lib.StableHlo.ReadAt
public import Idealize.ShloMosaic.Lib.Pointwise
public import Idealize.ShloMosaic.Lib.Pipeline.ValueKit.Tiles

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

local notation "𝕄" => MT nD τ sig Unit (Elt F) ℕ (UR sig nD τ) ℕ

/-- The words of the OR of the mask's rows, padded to whole blocks and cut into them; and which blocks have a word that is not zero. -/
def anyBlk (x : IVec S8x1000 32) : IVec S8x63x16 1 :=
  cmpi .ne (shapeCast S8x63x16 (pad S8x1008 ![0, 0] ![0, 8] ![0, 0] x (constantI S_ 32 0#32) pads_S8x1000_S8x1008_000_080 h_S_) shapeCasts_S8x1008_S8x63x16)
    (broadcastInDim S8x63x16 ![] bcast_S_S8x63x16 (constantI S_ 32 0#32))
def actBlk (x : IVec S8x1000 32) : IVec S63 32 :=
  extui 32 (Host.reduce IntOp.ori (anyBlk x) (constantI S_ 1 0#1) reducesTo_S8x63x16_S63_d0_2 h_S_) natLt_1_32

/-- The block numbers of the blocks with a legal word, minus one elsewhere; and the block each point fetches. -/
def blkIds (a : IVec S63 32) : IVec S63 32 :=
  select (cmpi .eq a (broadcastInDim S63 ![] bcast_S_S63 (constantI S_ 32 1#32))) (iotaInDim S63 32 0) (broadcastInDim S63 ![] bcast_S_S63 (constantI S_ 32 4294967295#32))
def cumBlk (a : IVec S63 32) : IVec S63 32 :=
  Host.reduceWindow IntOp.maxsi ![63] ![1] ![62] ![0] (blkIds a) (broadcastInDim S_ ![] bcast_S_S_ (constantI S_ 32 2147483648#32)) reduceWindows_S63_S63_w63s1p62_0 h_S_
def preBlk (a : IVec S63 32) : IVec S63 32 :=
  maxsi (cumBlk a) (broadcastInDim S63 ![] bcast_S_S63 (constantI S_ 32 0#32))

theorem V_main_v9 (c : Dev nD) : (V m c main_v9 : IVec S63 32) = actBlk (m ((c : Thread nD τ).loc main_arg6)) := by
  unfold V
  simp only [hostOps0, hostOps0_1, hostOps0_2, hostOps0_3, hostOps0_4, hostOps0_5, List.flatten_cons, List.flatten_nil, List.append_nil, List.cons_append, List.nil_append]
  after_reads_simp
  simp -implicitDefEqProofs only [StableHlo.TRef.toBuf, StableHlo.TRef.ofBuf, cast_cast, cast_eq]
  rfl

theorem V_main_v16 (c : Dev nD) : (V m c main_v16 : IVec S63 32) = preBlk (actBlk (m ((c : Thread nD τ).loc main_arg6))) := by
  unfold V
  simp only [hostOps0, hostOps0_1, hostOps0_2, hostOps0_3, hostOps0_4, hostOps0_5, List.flatten_cons, List.flatten_nil, List.append_nil, List.cons_append, List.nil_append]
  after_reads_simp
  simp -implicitDefEqProofs only [StableHlo.TRef.toBuf, StableHlo.TRef.ofBuf, cast_cast, cast_eq]
  rfl

theorem blkIds_apply (a : IVec S63 32) (i : S63.Idx) : blkIds a i = if a i = 1#32 then BitVec.ofNat 32 (i 0).val else 4294967295#32 := by
  obtain ⟨k, rfl⟩ : ∃ k : Fin 63, i = ix1 k := ⟨i 0, funext fun b => by obtain rfl : b = 0 := Subsingleton.elim _ _; rfl⟩
  unfold blkIds
  show (if IntOp.cmpi .eq (a (ix1 k)) 1#32 = 1#1 then _ else _) = _
  by_cases h : a (ix1 k) = 1#32
  · rw [if_pos h, if_pos (by rw [h]; rfl)]; rfl
  · rw [if_neg h, if_neg (by
      show ¬ BitVec.ofBool (a (ix1 k) == 1#32) = 1#1
      rw [beq_false_of_ne h]; decide)]; rfl

theorem blkIds_toInt (a : IVec S63 32) (i : S63.Idx) : (blkIds a i).toInt ≤ (i 0).val := by
  have hi : (i 0).val < 63 := (i 0).isLt
  rw [blkIds_apply]
  split
  · exact le_of_eq (Words.toInt_small (i 0))
  · exact le_trans (show (4294967295#32).toInt ≤ 0 by decide) (Int.natCast_nonneg _)

theorem cumBlk_le (a : IVec S63 32) (i : S63.Idx) : (cumBlk a i).toInt ≤ (i 0).val := by
  unfold cumBlk
  exact Words.cummax_le (blkIds a) (broadcastInDim S_ ![] bcast_S_S_ (constantI S_ 32 2147483648#32)) h_S_ reduceWindows_S63_S63_w63s1p62_0 i (i 0).val
    (le_trans (show (2147483648#32).toInt ≤ 0 by decide) (Int.natCast_nonneg _)) (fun k hk => le_trans (blkIds_toInt a k) (Int.ofNat_le.mpr hk))

theorem le_cumBlk (a : IVec S63 32) (i : S63.Idx) (h : a i = 1#32) : ((i 0).val : ℤ) ≤ (cumBlk a i).toInt := by
  unfold cumBlk
  refine le_trans (le_of_eq ?_) (Words.le_cummax (blkIds a) (broadcastInDim S_ ![] bcast_S_S_ (constantI S_ 32 2147483648#32)) h_S_ reduceWindows_S63_S63_w63s1p62_0 i)
  rw [blkIds_apply, if_pos h]
  exact (Words.toInt_small (i 0)).symm

theorem preBlk_apply (a : IVec S63 32) (i : S63.Idx) : preBlk a i = IntOp.maxsi (cumBlk a i) 0#32 := rfl

theorem preBlk_toInt (a : IVec S63 32) (i : S63.Idx) : 0 ≤ (preBlk a i).toInt ∧ (preBlk a i).toInt ≤ (i 0).val ∧ (a i = 1#32 → (preBlk a i).toInt = (i 0).val) := by
  rw [preBlk_apply, Words.maxsi_toInt, show (0#32).toInt = 0 from rfl]
  have hle := cumBlk_le a i
  have hge := le_cumBlk a i
  generalize (cumBlk a i).toInt = z at hle hge ⊢
  generalize ((i 0).val) = n at hle hge ⊢
  exact ⟨le_max_right _ _, max_le hle (Int.natCast_nonneg _), fun h => by have := hge h; omega⟩

theorem preBlk_toNat (a : IVec S63 32) (i : S63.Idx) : (preBlk a i).toNat ≤ 62 ∧ (a i = 1#32 → (preBlk a i).toNat = (i 0).val) := by
  have hi : (i 0).val < 63 := (i 0).isLt
  obtain ⟨h0, h1, h2⟩ := preBlk_toInt a i
  generalize preBlk a i = w at h0 h1 h2 ⊢
  generalize ((i 0).val) = n at h1 h2 hi ⊢
  have e : w.toInt = w.toNat := by
    rw [BitVec.toInt_eq_toNat_cond] at h0 h1 ⊢
    split at h0
    · rename_i h; rw [if_pos h]
    · have := w.isLt; omega
  exact ⟨by omega, fun h => by have := h2 h; omega⟩

/-- The word of the table at grid point `i`. -/
def preAt (i : grid0.Coords) : BitVec 32 := preBlk (actBlk (m (((0 : Dev nD) : Thread nD τ).loc main_arg6))) (ix1 (n0 := 63) (i 0))

theorem unit_first {α : Type} (X : S63.Idx → α) (i : grid0.Coords) :
    X ((Rect.unit (s := S63) ![(Scalar.indexCast (BitVec.ofNat 32 (i 0).val)).toNat] S1.size (k0_off1_inb i)).emb (Shape.Idx.first (numel1_S1.symm ▸ Nat.one_pos))) = X (ix1 (n0 := 63) (i 0)) := by
  refine congrArg X (funext fun b => Fin.ext ?_)
  obtain rfl : b = 0 := Subsingleton.elim _ _
  have hi : (i 0).val < 63 := (i 0).isLt
  have e : ∀ z : Fin 1, z.val = 0 := fun z => by omega
  have e2 : (Scalar.indexCast (BitVec.ofNat 32 (i 0).val)).toNat = (i 0).val := by
    simp [Scalar.indexCast]; omega
  refine (congrArg (fun z => (Scalar.indexCast (BitVec.ofNat 32 (i 0).val)).toNat + 1 * z) (e (Shape.Idx.first (s := S1) (numel1_S1.symm ▸ Nat.one_pos) 0))).trans ?_
  exact (Nat.add_zero _).trans e2

theorem pre_word (i : grid0.Coords) : (tbl m).at 0 (Rect.unit (s := S63) ![(Scalar.indexCast (BitVec.ofNat 32 (i 0).val)).toNat] S1.size (k0_off1_inb i)) numel1_S1 = preAt m i := by
  show (V m (0 : Dev nD) main_v16 : IVec S63 32) _ = _
  rw [V_main_v16]
  exact unit_first _ i

theorem act_word (c : Dev nD) (i : grid0.Coords) : (tbl m 1 : IVec S63 32) (ix1 (n0 := 63) (i 0)) = actBlk (m ((c : Thread nD τ).loc main_arg6)) (ix1 (n0 := 63) (i 0)) := by
  obtain rfl : c = 0 := Subsingleton.elim _ _
  exact congrFun (V_main_v9 m 0) _

theorem preAt_le (i : grid0.Coords) : (preAt m i).toNat ≤ 62 := (preBlk_toNat _ _).1

/-- The row and column block each table-driven window takes. -/
theorem ix_0 (i : grid0.Coords) : cc0_transform_0 k0_off1_inb numel1_S1 (tbl m) i = ![(preAt m i).toNat, 0] := by
  exact congrArg (fun w : BitVec 32 => (![w.toNat, 0] : Fin 2 → ℕ)) (pre_word m i)
theorem ix_1 (i : grid0.Coords) : cc0_transform_1 k0_off1_inb numel1_S1 (tbl m) i = ![0, (preAt m i).toNat] := by
  exact congrArg (fun w : BitVec 32 => (![0, w.toNat] : Fin 2 → ℕ)) (pre_word m i)

/-- The quotient by eight as the index map computes it. -/
def divWord (w : BitVec 32) : BitVec 32 :=
  Scalar.select (Scalar.andi (Scalar.cmpi .ne (Scalar.subi (Scalar.extui (Scalar.cmpi .sgt w 0#32) : BitVec 32) (Scalar.extui (Scalar.cmpi .slt w 0#32)))
    (Scalar.subi (Scalar.extui (Scalar.cmpi .sgt (8#32 : BitVec 32) 0#32) : BitVec 32) (Scalar.extui (Scalar.cmpi .slt (8#32 : BitVec 32) 0#32)))) (Scalar.cmpi .ne (Scalar.remsi w 8#32) 0#32))
    (Scalar.subi (Scalar.divsi w 8#32) 1#32) (Scalar.divsi w 8#32)

theorem divWord_small : ∀ k : Fin 63, (divWord (BitVec.ofNat 32 k.val)).toNat = k.val / 8 := by decide

theorem divWord_le (w : BitVec 32) (h : w.toNat ≤ 62) : (divWord w).toNat = w.toNat / 8 := by
  have e := divWord_small ⟨w.toNat, by omega⟩
  rwa [show BitVec.ofNat 32 (⟨w.toNat, by omega⟩ : Fin 63).val = w by rw [BitVec.ofNat_toNat, BitVec.setWidth_eq]] at e

theorem tr_2 (pf : pre0.Contents (Elt F)) (i : grid0.Coords) : cc0_transform_2 k0_off1_inb numel1_S1 pf i
    = ![0, (divWord (pf.at 0 (Rect.unit (s := S63) ![(Scalar.indexCast (BitVec.ofNat 32 (i 0).val)).toNat] S1.size (k0_off1_inb i)) numel1_S1)).toNat] := by
  unfold cc0_transform_2 divWord
  rfl

theorem ix_2 (i : grid0.Coords) : cc0_transform_2 k0_off1_inb numel1_S1 (tbl m) i = ![0, (preAt m i).toNat / 8] := by
  have h := preAt_le m i
  have d := divWord_le (preAt m i) h
  exact (tr_2 (tbl m) i).trans ((congrArg (fun w : BitVec 32 => (![0, (divWord w).toNat] : Fin 2 → ℕ)) (pre_word m i)).trans (congrArg (fun n : ℕ => (![0, n] : Fin 2 → ℕ)) d))

/-- The blocks of the table-driven windows are inside their arrays: the launch's side condition holds of every memory. -/
theorem ok (m : (ℓ : Loc nD τ sig) → Buf (Elt F) ℓ) : Ok m := by
  refine ⟨fun i => ⟨fun a => ?_, ?_⟩, fun i => ⟨fun a => ?_, .inl rfl⟩, fun i => ⟨fun a => ?_, .inl rfl⟩⟩
  · have h := preAt_le m i
    rw [ix_0]
    match a with
    | ⟨0, _⟩ => show ((preAt m i).toNat + 1) * 512 ≤ 32256; omega
    | ⟨1, _⟩ => show (0 + 1) * 8192 ≤ 8192; omega
  · exact .inr (Affine.block_words_dvd (of_decide_eq_true rfl) (by decide))
  · have h := preAt_le m i
    rw [ix_1]
    match a with
    | ⟨0, _⟩ => show (0 + 1) * 1 ≤ 1; omega
    | ⟨1, _⟩ => show ((preAt m i).toNat + 1) * 512 ≤ 32256; omega
  · have h := preAt_le m i
    rw [ix_2]
    match a with
    | ⟨0, _⟩ => show (0 + 1) * 2688 ≤ 2688; omega
    | ⟨1, _⟩ => show ((preAt m i).toNat / 8 + 1) * 128 ≤ 1024; omega

end Cert.KernelIdeal.Hand
-- ==== Proof.Hand.Final.lean ====
/- What the head call leaves: its three results at the named values, its arguments unchanged, every counter at zero. -/
module

public import proofs.«01_k».proof.Proof.Hand.Run
public import proofs.«01_k».proof.Proof.Hand.Host
public import Idealize.ShloMosaic.Lib.Pipeline.ValueKit

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

local notation "𝕄" => MT nD τ sig Unit (Elt F) ℕ (UR sig nD τ) ℕ

/-- The last grid point. -/
def lastPt (hO : Ok m) : Fin (cfgM m hO).N := pt m hO 62

theorem flush_last {hO : Ok m} {t : Fin (cfgM m hO).N} (h : t.val % 63 = 62) : t = lastPt m hO := by
  have hN : t.val < 63 := lt_of_lt_of_eq t.isLt (show (cfgM m hO).N = 63 from N_0)
  exact Fin.ext (show t.val = 62 by omega)

theorem whole_6 (hO : Ok m) : ((cfgM m hO).win 6).WholeAt (lastPt m hO) :=
  ⟨(flush0_6 (adm m hO) _).mpr rfl, fun t h => flush_last m ((flush0_6 (adm m hO) t).mp h), fun a => by fin_cases a <;> exact ⟨rfl, rfl⟩⟩

theorem arrAt_6 (hO : Ok m) (c : Dev nD) : (dats m hO 0 c).arrAt 6 (cfgM m hO).N = res6 m c hO := by
  refine (dats m hO 0 c).arrAt_eq_of_after_last 6 (lastPt m hO) (whole_6 m hO) _ (fun j => ?_) (Memref.isWhole_whole _)
  rw [after0_6 m hO c]
  rfl

theorem whole_7 (hO : Ok m) : ((cfgM m hO).win 7).WholeAt (lastPt m hO) :=
  ⟨(flush0_7 (adm m hO) _).mpr rfl, fun t h => flush_last m ((flush0_7 (adm m hO) t).mp h), fun a => by fin_cases a <;> exact ⟨rfl, rfl⟩⟩

theorem arrAt_7 (hO : Ok m) (c : Dev nD) : (dats m hO 0 c).arrAt 7 (cfgM m hO).N = res7 m c hO := by
  refine (dats m hO 0 c).arrAt_eq_of_after_last 7 (lastPt m hO) (whole_7 m hO) _ (fun j => ?_) (Memref.isWhole_whole _)
  rw [after0_7 m hO c]
  rfl

theorem whole_8 (hO : Ok m) : ((cfgM m hO).win 8).WholeAt (lastPt m hO) :=
  ⟨(flush0_8 (adm m hO) _).mpr rfl, fun t h => flush_last m ((flush0_8 (adm m hO) t).mp h), fun a => by fin_cases a <;> exact ⟨rfl, rfl⟩⟩

theorem arrAt_8 (hO : Ok m) (c : Dev nD) : (dats m hO 0 c).arrAt 8 (cfgM m hO).N = res8 m c hO := by
  refine (dats m hO 0 c).arrAt_eq_of_after_last 8 (lastPt m hO) (whole_8 m hO) _ (fun j => ?_) (Memref.isWhole_whole _)
  rw [after0_8 m hO c]
  rfl

/-- Every argument array as at the launch. -/
def Unchanged (r : PUnit × MemSt nD τ sig (Elt F)) (c : Dev nD) : Prop :=
  r.2.mem ((c.tc : Thread nD τ).loc main_arg0) = m ((c.tc : Thread nD τ).loc main_arg0)
  ∧ r.2.mem ((c.tc : Thread nD τ).loc main_arg1) = m ((c.tc : Thread nD τ).loc main_arg1)
  ∧ r.2.mem ((c.tc : Thread nD τ).loc main_arg2) = m ((c.tc : Thread nD τ).loc main_arg2)
  ∧ r.2.mem ((c.tc : Thread nD τ).loc main_arg3) = m ((c.tc : Thread nD τ).loc main_arg3)
  ∧ r.2.mem ((c.tc : Thread nD τ).loc main_arg4) = m ((c.tc : Thread nD τ).loc main_arg4)
  ∧ r.2.mem ((c.tc : Thread nD τ).loc main_arg5) = m ((c.tc : Thread nD τ).loc main_arg5)
  ∧ r.2.mem ((c.tc : Thread nD τ).loc main_arg6) = m ((c.tc : Thread nD τ).loc main_arg6)
  ∧ r.2.mem ((c.tc : Thread nD τ).loc main_arg7) = m ((c.tc : Thread nD τ).loc main_arg7)
  ∧ r.2.mem ((c.tc : Thread nD τ).loc main_arg8) = m ((c.tc : Thread nD τ).loc main_arg8)
  ∧ r.2.mem ((c.tc : Thread nD τ).loc main_arg9) = m ((c.tc : Thread nD τ).loc main_arg9)

theorem unchanged_of (hO : Ok m) {r : PUnit × MemSt nD τ sig (Elt F)} (h : Pipeline.FramePost (Pipeline.pin pcfgs fun _ => adm m hO) (dats m hO) 0 (V m) r) (c : Dev nD) : Unchanged m r c :=
  ⟨((h c).1 5).trans (((dats m hO 0 c).arrAt_in 5 rfl _).trans ((A_eq m hO c 5).trans (V_main_arg0 m c))),
    ((h c).1 4).trans (((dats m hO 0 c).arrAt_in 4 rfl _).trans ((A_eq m hO c 4).trans (V_main_arg1 m c))),
    ((h c).2 main_arg2 (by decide : main_arg2 ∈ Pipeline.restRefs sig spec0)).trans (V_main_arg2 m c),
    ((h c).2 main_arg3 (by decide : main_arg3 ∈ Pipeline.restRefs sig spec0)).trans (V_main_arg3 m c),
    ((h c).2 main_arg4 (by decide : main_arg4 ∈ Pipeline.restRefs sig spec0)).trans (V_main_arg4 m c),
    ((h c).2 main_arg5 (by decide : main_arg5 ∈ Pipeline.restRefs sig spec0)).trans (V_main_arg5 m c),
    ((h c).2 main_arg6 (by decide : main_arg6 ∈ Pipeline.restRefs sig spec0)).trans (V_main_arg6 m c),
    ((h c).2 main_arg7 (by decide : main_arg7 ∈ Pipeline.restRefs sig spec0)).trans (V_main_arg7 m c),
    ((h c).2 main_arg8 (by decide : main_arg8 ∈ Pipeline.restRefs sig spec0)).trans (V_main_arg8 m c),
    ((h c).2 main_arg9 (by decide : main_arg9 ∈ Pipeline.restRefs sig spec0)).trans (V_main_arg9 m c)⟩

/-- Every execution of the kernel's program ends with the three results at the named values, the arguments unchanged and every counter at zero. -/
theorem run_results : θ_run defs (onTc (τ := τ) (main (F := F))) ⟨m, fun _ => 0, ρ⟩ (fun r => (∀ c : Dev nD,
    r.2.mem ((c.tc : Thread nD τ).loc main_v21_0) = res6 m c (ok m)
    ∧ r.2.mem ((c.tc : Thread nD τ).loc main_v21_1) = res7 m c (ok m)
    ∧ r.2.mem ((c.tc : Thread nD τ).loc main_v21_2) = res8 m c (ok m) ∧ Unchanged m r c) ∧ r.2.sem = fun _ => 0) :=
  (θ_run defs _ _).mono (fun r h => ⟨fun c => ⟨((h.1 c).1 6).trans (arrAt_6 m (ok m) c), ((h.1 c).1 7).trans (arrAt_7 m (ok m) c), ((h.1 c).1 8).trans (arrAt_8 m (ok m) c), unchanged_of m (ok m) h.1 c⟩, h.2⟩) (run_main m ρ (ok m))

/-- Every execution ends with the arguments unchanged and every counter at zero. -/
theorem frame : θ_run defs (onTc (τ := τ) (main (F := F))) ⟨m, fun _ => 0, ρ⟩ (fun r => (∀ c : Dev nD, Unchanged m r c) ∧ r.2.sem = fun _ => 0) :=
  (θ_run defs _ _).mono (fun _ h => ⟨fun c => (h.1 c).2.2.2, h.2⟩) (run_results m ρ)

end Cert.KernelIdeal.Hand
-- ==== Proof.Hand.Math.lean ====
/- The log-sum-exp of a block of 512 columns and of the 63 blocks, over the extended reals, and a block cut into four chunks. -/
module

public import Idealize.ShloMosaic.Lib.Pointwise
public import Idealize.ShloMosaic.PureOps.Ideal.Laws

@[expose] public section

noncomputable section

namespace Cert.Head

open Idealize.ShloMosaic

/-- The word of minus infinity denotes minus infinity. -/
theorem ofBits_negInf : Ideal.ofBits FTy.f32 4286578688#32 = ⊥ := by
  simp [Ideal.ofBits, Ideal.ieee]

/-- Bit `n` of a word is set. -/
def bitSet (w : BitVec 32) (n : ℕ) : Prop := w.sshiftRight n &&& 1#32 = 1#32

theorem not_bitSet_zero (n : ℕ) : ¬ bitSet 0#32 n := by
  unfold bitSet
  rw [BitVec.zero_sshiftRight]
  decide

theorem bitSet_of (u : ArithUnit) (w x : BitVec 32) (n : ℕ) (hn : n < 32) (hx : x = BitVec.ofNat 32 n) :
    IntOp.andi (IntOp.shrsi u w x) 1#32 = 1#32 ↔ bitSet w n := by
  subst hx
  have e : (BitVec.ofNat 32 n).toNat = n := by rw [BitVec.toNat_ofNat]; omega
  unfold IntOp.shrsi bitSet IntOp.andi
  rw [if_pos (by omega), BitVec.sshiftRight', e]

/-- The shift of a block: its maximum, or zero when that is minus infinity. -/
def shift (v : EReal) : EReal := if ⊥ < v then v else 0

/-- The log-sum-exp of a block. -/
def blockLse (f : Fin 512 → EReal) : EReal :=
  shift (Finset.univ.sup f) + Ideal.log (∑ n, Ideal.exp (f n - shift (Finset.univ.sup f)))

/-- The log-sum-exp of the blocks. -/
def totalLse (b : Fin 63 → EReal) : EReal :=
  Finset.univ.sup b + Ideal.log (∑ j, Ideal.exp (b j - Finset.univ.sup b))

theorem fold_max (n : ℕ) (f : Fin n → EReal) : Finset.fold max (Ideal.ofBits FTy.f32 4286578688#32) f Finset.univ = Finset.univ.sup f := by
  rw [ofBits_negInf]
  rfl

/-- A block with nothing in it has log-sum-exp minus infinity. -/
theorem blockLse_bot (f : Fin 512 → EReal) (h : ∀ n, f n = ⊥) : blockLse f = ⊥ := by
  obtain rfl : f = fun _ => ⊥ := funext h
  have e : (Finset.univ : Finset (Fin 512)).sup (fun _ => (⊥ : EReal)) = ⊥ := Finset.sup_bot _
  unfold blockLse
  rw [e, shift, if_neg (lt_irrefl _)]
  have z : ∀ n : Fin 512, Ideal.exp ((⊥ : EReal) - 0) = 0 := fun _ => by rw [sub_zero]; rfl
  rw [Finset.sum_congr rfl (fun n _ => z n), Finset.sum_const_zero, zero_add]
  show Ideal.log ((0 : ℝ) : EReal) = ⊥
  rw [Ideal.log_coe, if_pos (le_refl _)]

/-- The column of a block at a lane of a chunk. -/
def col (c : Fin 4) (l : Fin 128) : Fin 512 := ⟨128 * c.val + l.val, by omega⟩

theorem exists_col (n : Fin 512) : ∃ c l, n = col c l :=
  ⟨⟨n.val / 128, by omega⟩, ⟨n.val % 128, by omega⟩, Fin.ext (by show n.val = 128 * (n.val / 128) + n.val % 128; omega)⟩

theorem sup_chunks (f : Fin 512 → EReal) :
    Finset.univ.sup f = Finset.univ.sup fun l : Fin 128 => max (max (f (col 0 l)) (f (col 1 l))) (max (f (col 2 l)) (f (col 3 l))) := by
  refine le_antisymm (Finset.sup_le fun n _ => ?_) (Finset.sup_le fun l _ => ?_)
  · obtain ⟨c, l, rfl⟩ := exists_col n
    refine le_trans ?_ (Finset.le_sup (f := fun l : Fin 128 => max (max (f (col 0 l)) (f (col 1 l))) (max (f (col 2 l)) (f (col 3 l)))) (Finset.mem_univ l))
    fin_cases c
    · exact le_max_of_le_left (le_max_left _ _)
    · exact le_max_of_le_left (le_max_right _ _)
    · exact le_max_of_le_right (le_max_left _ _)
    · exact le_max_of_le_right (le_max_right _ _)
  · exact max_le (max_le (Finset.le_sup (Finset.mem_univ _)) (Finset.le_sup (Finset.mem_univ _))) (max_le (Finset.le_sup (Finset.mem_univ _)) (Finset.le_sup (Finset.mem_univ _)))

theorem sup_four (f : Fin 512 → EReal) :
    max (max (max (max ⊥ (Finset.univ.sup fun l => f (col 0 l))) (Finset.univ.sup fun l => f (col 1 l))) (Finset.univ.sup fun l => f (col 2 l))) (Finset.univ.sup fun l => f (col 3 l))
      = Finset.univ.sup f := by
  have up : ∀ c, (Finset.univ.sup fun l => f (col c l)) ≤ Finset.univ.sup f := fun c => Finset.sup_le fun l _ => Finset.le_sup (Finset.mem_univ _)
  refine le_antisymm (max_le (max_le (max_le (max_le bot_le (up 0)) (up 1)) (up 2)) (up 3)) (Finset.sup_le fun n _ => ?_)
  obtain ⟨c, l, rfl⟩ := exists_col n
  refine le_trans (Finset.le_sup (f := fun l => f (col c l)) (Finset.mem_univ l)) ?_
  fin_cases c
  · exact le_max_of_le_left (le_max_of_le_left (le_max_of_le_left (le_max_right _ _)))
  · exact le_max_of_le_left (le_max_of_le_left (le_max_right _ _))
  · exact le_max_of_le_left (le_max_right _ _)
  · exact le_max_right _ _

theorem sum_chunks (f : Fin 512 → EReal) : ∑ n, f n = ∑ l, (f (col 0 l) + f (col 1 l) + f (col 2 l) + f (col 3 l)) := by
  rw [← (finProdFinEquiv : Fin 4 × Fin 128 ≃ Fin 512).sum_comp f, Fintype.sum_prod_type_right]
  refine Finset.sum_congr rfl fun l _ => ?_
  have e : ∀ c, (finProdFinEquiv : Fin 4 × Fin 128 ≃ Fin 512) (c, l) = col c l := fun c => Fin.ext (by show l.val + 128 * c.val = 128 * c.val + l.val; omega)
  rw [Fin.sum_univ_four, e, e, e, e]

/-- The maximum over one place alone. -/
theorem sup_single {ι : Type} [Fintype ι] [DecidableEq ι] (p : ι → Prop) [DecidablePred p] (f : ι → EReal) (i : ι) (hi : p i) (hu : ∀ k, p k → k = i) :
    (Finset.univ.sup fun k => if p k then f k else ⊥) = f i := by
  refine le_antisymm (Finset.sup_le fun k _ => ?_) ?_
  · show (if p k then f k else ⊥) ≤ f i
    split
    · rename_i h; rw [hu k h]
    · exact bot_le
  · have h := Finset.le_sup (f := fun k => if p k then f k else ⊥) (Finset.mem_univ i)
    rwa [if_pos hi] at h

end Cert.Head

end
-- ==== Proof.Hand.TileValue.lean ====
/- What a tile of the head kernel computes over the extended reals: the log-sum-exp of a block of 512 columns and the target's logit. -/
module

public import proofs.«01_k».proof.Proof.Hand.TileRun
public import proofs.«01_k».proof.Proof.Hand.Steps
public import proofs.«01_k».proof.Proof.Hand.Math
public import Idealize.ShloMosaic.Lib.Pointwise

@[expose] public section

noncomputable section

namespace Cert.KernelIdeal.Hand

open Idealize.ShloMosaic Idealize.SL.Sem
open Facts₀ Facts
open Cert.KernelIdeal.Gen
open Cert.Head

theorem laneDiv_apply (k : Fin 448) (l : Fin 128) : laneDiv (ix2 k l) = BitVec.ofNat 32 (l.val / 32) := by
  pointwise [laneDiv, laneV]
  revert l
  decide +kernel

theorem laneMod_apply (k : Fin 448) (l : Fin 128) : laneMod (ix2 k l) = BitVec.ofNat 32 (l.val % 32) := by
  pointwise [laneMod, laneV]
  revert l
  decide +kernel

theorem wordBase_apply : ∀ (t : Fin 63) (c : Fin 4), wordBase (BitVec.ofNat 32 t.val) (BitVec.ofNat 32 (4 * c.val)) = BitVec.ofNat 32 (t.val % 8 * 16 + 4 * c.val) := by
  decide +kernel

theorem word_wrap : ∀ s : Fin 128, (Scalar.select (IntOp.cmpi CmpIPredicate.slt (BitVec.ofNat 32 s.val) 0#32) (IntOp.addi (BitVec.ofNat 32 s.val) 128#32) (BitVec.ofNat 32 s.val)).toNat % 128 = s.val := by
  decide +kernel

/-- The word of a staged mask row that holds column `n` of block `t`. -/
def wordCol (t : Fin 63) (n : Fin 512) : Fin 128 := ⟨t.val % 8 * 16 + n.val / 32, by omega⟩

theorem gather_bit (mt : IVec S448x128 32) (k : Fin 448) (x y : BitVec 32)
    (h : (Scalar.select (IntOp.cmpi CmpIPredicate.slt x 0#32) (IntOp.addi x 128#32) x).toNat % 128 < 128) (q : Fin 128) (n : ℕ) (hx : x = BitVec.ofNat 32 q.val)
    (hn : n < 32) (hy : y = BitVec.ofNat 32 n) :
    IntOp.andi (IntOp.shrsi ArithUnit.vector (mt (ix2 k ⟨(Scalar.select (IntOp.cmpi CmpIPredicate.slt x 0#32) (IntOp.addi x 128#32) x).toNat % 128, h⟩)) y) 1#32 = 1#32
      ↔ bitSet (mt (ix2 k q)) n := by
  subst hx
  rw [bitSet_of _ _ _ n hn hy]
  refine iff_of_eq (congrArg (fun q => bitSet (mt (ix2 k q)) n) (Fin.ext ?_))
  exact word_wrap q

theorem bitV_apply (t : Fin 63) (c : Fin 4) (mt : IVec S448x128 32) (k : Fin 448) (l : Fin 128) :
    bitV (BitVec.ofNat 32 t.val) (BitVec.ofNat 32 (4 * c.val)) mt (ix2 k l) = 1#32 ↔ bitSet (mt (ix2 k (wordCol t (col c l)))) ((col c l).val % 32) := by
  pointwise [bitV]
  have h1 : (col c l).val % 32 = l.val % 32 := by show (128 * c.val + l.val) % 32 = _; omega
  rw [h1]
  refine gather_bit mt k _ _ _ _ _ ?_ (Nat.mod_lt _ (by decide)) (laneMod_apply k l)
  rw [wordBase_apply, laneDiv_apply]
  unfold IntOp.addi
  rw [← BitVec.ofNat_add]
  refine congrArg (BitVec.ofNat 32) ?_
  show _ = t.val % 8 * 16 + (128 * c.val + l.val) / 32
  omega

theorem tok_eq (t : Fin 63) (c : Fin 4) (l : Fin 128) :
    IntOp.addi (Scalar.addi (Scalar.muli (BitVec.ofNat 32 t.val) 512#32) (BitVec.ofNat 32 (128 * c.val))) (BitVec.ofNat 32 l.val) = BitVec.ofNat 32 (512 * t.val + (col c l).val) := by
  show BitVec.ofNat 32 t.val * BitVec.ofNat 32 512 + BitVec.ofNat 32 (128 * c.val) + BitVec.ofNat 32 l.val = _
  rw [← BitVec.ofNat_mul, ← BitVec.ofNat_add, ← BitVec.ofNat_add]
  refine congrArg (BitVec.ofNat 32) ?_
  show _ = 512 * t.val + (128 * c.val + l.val)
  omega

theorem tok_lt (n : ℕ) (h : n < 32256) : IntOp.cmpi CmpIPredicate.slt (BitVec.ofNat 32 n) 32000#32 = 1#1 ↔ n < 32000 := by
  have e : (BitVec.ofNat 32 n).toInt = n := by
    rw [BitVec.toInt_eq_toNat_cond, BitVec.toNat_ofNat, Nat.mod_eq_of_lt (by omega), if_pos (by omega)]
  show BitVec.ofBool (decide ((BitVec.ofNat 32 n).toInt < (32000#32).toInt)) = 1#1 ↔ _
  rw [e, show (32000#32).toInt = 32000 from rfl]
  by_cases h : n < 32000
  · simp [h]
  · simp [h]

theorem and_one (a b : BitVec 1) : IntOp.andi a b = 1#1 ↔ a = 1#1 ∧ b = 1#1 := by
  revert a b; decide

theorem cmp_eq (a b : BitVec 32) : IntOp.cmpi CmpIPredicate.eq a b = 1#1 ↔ a = b := by
  show BitVec.ofBool (a == b) = 1#1 ↔ _
  by_cases h : a = b
  · simp [h]
  · rw [beq_false_of_ne h]
    exact ⟨fun e => absurd e (by decide), fun e => absurd e h⟩

/-- Column `n` of block `t` may be chosen by row `k`: its bit in the mask is set and it is a column of the vocabulary. -/
def okAt (t : Fin 63) (row : Fin 128 → BitVec 32) (n : Fin 512) : Prop :=
  bitSet (row (wordCol t n)) (n.val % 32) ∧ 512 * t.val + n.val < 32000

theorem okV_apply (t : Fin 63) (c : Fin 4) (mt : IVec S448x128 32) (k : Fin 448) (l : Fin 128) :
    okV (BitVec.ofNat 32 t.val) (BitVec.ofNat 32 (4 * c.val)) (BitVec.ofNat 32 (128 * c.val)) mt (ix2 k l) = 1#1 ↔ okAt t (fun w => mt (ix2 k w)) (col c l) := by
  have h : (col c l).val < 512 := (col c l).isLt
  pointwise [okV, tokV, laneV]
  rw [and_one, cmp_eq, bitV_apply, tok_eq, tok_lt _ (by omega)]
  rfl

theorem prodV_apply (x : FVec Ideal S448x8192 .fp8e4m3) (w : FVec Ideal S512x8192 .fp8e4m3) (k : Fin 448) (n : Fin 512) :
    prodV x w (ix2 k n) = ∑ d : Fin 8192, x (ix2 k d) * w (ix2 n d) := by
  pointwise [prodV]

theorem rowMax_apply (v : FVec Ideal S448x128 .f32) (k : Fin 448) : rowMax v (ix2 k 0) = Finset.univ.sup fun l : Fin 128 => v (ix2 k l) := by
  pointwise [rowMax]
  exact fold_max 128 _

open Classical in
/-- The logit of column `n` of block `t`, minus infinity where it may not be chosen. -/
def cell (t : Fin 63) (row : Fin 128 → BitVec 32) (acc : Fin 512 → EReal) (x : EReal) (ws : Fin 512 → EReal) (n : Fin 512) : EReal :=
  if okAt t row n then acc n * x * ws n else ⊥

open Classical in
theorem chunkV_apply (t : Fin 63) (c : Fin 4) (ho : S448x512.Slices ![0, 128 * c.val] S448x128) (p : FVec Ideal S448x512 .f32)
    (xs : FVec Ideal S448x1 .f32) (mt : IVec S448x128 32) (w : FVec Ideal S1x128 .f32) (ws : Fin 512 → EReal) (hw : ∀ l : Fin 128, w (ix2 0 l) = ws (col c l)) (k : Fin 448) (l : Fin 128) :
    chunkV (BitVec.ofNat 32 t.val) (BitVec.ofNat 32 (4 * c.val)) (BitVec.ofNat 32 (128 * c.val)) (128 * c.val) ho p xs mt w (ix2 k l)
      = cell t (fun w => mt (ix2 k w)) (fun n => p (ix2 k n)) (xs (ix2 k 0)) ws (col c l) := by
  pointwise [chunkV, negV]
  unfold cell Scalar.select
  rw [ofBits_negInf, hw]
  exact if_congr (okV_apply t c mt k l) rfl rfl

theorem shiftV_apply (a b c d : FVec Ideal S448x128 .f32) (f : Fin 512 → EReal) (k : Fin 448) (ha : ∀ l, a (ix2 k l) = f (col 0 l)) (hb : ∀ l, b (ix2 k l) = f (col 1 l))
    (hc : ∀ l, c (ix2 k l) = f (col 2 l)) (hd : ∀ l, d (ix2 k l) = f (col 3 l)) : shiftV a b c d (ix2 k 0) = shift (Finset.univ.sup f) := by
  pointwise [shiftV, negV]
  rw [ofBits_negInf, rowMax_apply, sup_chunks]
  pointwise []
  simp only [ha, hb, hc, hd]
  rfl

theorem lseV_apply (a b c d : FVec Ideal S448x128 .f32) (f : Fin 512 → EReal) (k : Fin 448) (ha : ∀ l, a (ix2 k l) = f (col 0 l)) (hb : ∀ l, b (ix2 k l) = f (col 1 l))
    (hc : ∀ l, c (ix2 k l) = f (col 2 l)) (hd : ∀ l, d (ix2 k l) = f (col 3 l)) : lseV a b c d (ix2 k 0) = blockLse f := by
  pointwise [lseV, expV]
  unfold blockLse
  rw [shiftV_apply a b c d f k ha hb hc hd, sum_chunks]
  simp only [ha, hb, hc, hd]

open Classical in
theorem tgtV_apply (t : Fin 63) (c : Fin 4) (tg : IVec S448x1 32) (v : FVec Ideal S448x128 .f32) (f : Fin 512 → EReal) (k : Fin 448) (h : ∀ l, v (ix2 k l) = f (col c l)) :
    tgtV (BitVec.ofNat 32 t.val) (BitVec.ofNat 32 (128 * c.val)) tg v (ix2 k 0)
      = Finset.univ.sup fun l : Fin 128 => if BitVec.ofNat 32 (512 * t.val + (col c l).val) = tg (ix2 k 0) then f (col c l) else ⊥ := by
  unfold tgtV
  rw [rowMax_apply]
  refine Finset.sup_congr rfl fun l _ => ?_
  pointwise [tokV, laneV, negV]
  rw [tok_eq, h, ofBits_negInf]
  exact if_congr (cmp_eq _ _) rfl rfl

theorem bothV_zero (a b : FVec Ideal S448x1 .f32) (k : Fin 448) : bothV a b (ix2 (0 : Fin 128) k) = a (ix2 k 0) := by
  pointwise [bothV, laneV]

theorem bothV_one (a b : FVec Ideal S448x1 .f32) (k : Fin 448) : bothV a b (ix2 (1 : Fin 128) k) = b (ix2 k 0) := by
  pointwise [bothV, laneV]
  rfl

section Tile

variable (t : Fin 63) (codes : FVec Ideal S448x8192 .fp8e4m3) (w : FVec Ideal S512x8192 .fp8e4m3) (xs : FVec Ideal S448x1 .f32)
  (tg : IVec S448x1 32) (mt : IVec S448x128 32) (w0 w1 w2 w3 : FVec Ideal S1x128 .f32) (ws : Fin 512 → EReal)
  (h0 : ∀ l : Fin 128, w0 (ix2 0 l) = ws (col 0 l)) (h1 : ∀ l : Fin 128, w1 (ix2 0 l) = ws (col 1 l))
  (h2 : ∀ l : Fin 128, w2 (ix2 0 l) = ws (col 2 l)) (h3 : ∀ l : Fin 128, w3 (ix2 0 l) = ws (col 3 l)) (k : Fin 448)

/-- The cells of a row of a tile. -/
def tileCell : Fin 512 → EReal :=
  cell t (fun w => mt (ix2 k w)) (fun n => ∑ d : Fin 8192, codes (ix2 k d) * w (ix2 n d)) (xs (ix2 k 0)) ws

theorem tile_chunk (c : Fin 4) (ho : S448x512.Slices ![0, 128 * c.val] S448x128) (wc : FVec Ideal S1x128 .f32) (hw : ∀ l : Fin 128, wc (ix2 0 l) = ws (col c l)) (l : Fin 128) :
    chunkV (BitVec.ofNat 32 t.val) (BitVec.ofNat 32 (4 * c.val)) (BitVec.ofNat 32 (128 * c.val)) (128 * c.val) ho (prodV codes w) xs mt wc (ix2 k l)
      = tileCell t codes w xs mt ws k (col c l) := by
  rw [chunkV_apply t c ho _ xs mt wc ws hw k l]
  unfold tileCell
  exact congrArg (fun f => cell t (fun w => mt (ix2 k w)) f (xs (ix2 k 0)) ws (col c l)) (funext fun n => prodV_apply codes w k n)

include h0 h1 h2 h3 in
/-- Lane 0 of a tile holds the log-sum-exp of the block. -/
theorem tileV_zero : tileV (BitVec.ofNat 32 t.val) codes w xs tg mt w0 w1 w2 w3 (ix2 (0 : Fin 128) k) = blockLse (tileCell t codes w xs mt ws k) := by
  unfold tileV
  refine (bothV_zero _ _ k).trans (lseV_apply _ _ _ _ _ k (fun l => ?_) (fun l => ?_) (fun l => ?_) (fun l => ?_))
  · exact tile_chunk t codes w xs mt ws k 0 _ w0 h0 l
  · exact tile_chunk t codes w xs mt ws k 1 _ w1 h1 l
  · exact tile_chunk t codes w xs mt ws k 2 _ w2 h2 l
  · exact tile_chunk t codes w xs mt ws k 3 _ w3 h3 l

open Classical in
include h0 h1 h2 h3 in
/-- Lane 1 of a tile holds the logit of the target, when the block has it. -/
theorem tileV_one : tileV (BitVec.ofNat 32 t.val) codes w xs tg mt w0 w1 w2 w3 (ix2 (1 : Fin 128) k)
    = Finset.univ.sup fun n : Fin 512 => if BitVec.ofNat 32 (512 * t.val + n.val) = tg (ix2 k 0) then tileCell t codes w xs mt ws k n else ⊥ := by
  unfold tileV
  refine (bothV_one _ _ k).trans ?_
  rw [← sup_four]
  have e0 := tgtV_apply t 0 tg _ _ k (tile_chunk t codes w xs mt ws k 0 Gen.slices_S448x512_o0_0_S448x128 w0 h0)
  have e1 := tgtV_apply t 1 tg _ _ k (tile_chunk t codes w xs mt ws k 1 Gen.slices_S448x512_o0_128_S448x128 w1 h1)
  have e2 := tgtV_apply t 2 tg _ _ k (tile_chunk t codes w xs mt ws k 2 Gen.slices_S448x512_o0_256_S448x128 w2 h2)
  have e3 := tgtV_apply t 3 tg _ _ k (tile_chunk t codes w xs mt ws k 3 Gen.slices_S448x512_o0_384_S448x128 w3 h3)
  rw [← e0, ← e1, ← e2, ← e3, ← ofBits_negInf]
  rfl

end Tile

end Cert.KernelIdeal.Hand

end
-- ==== Proof.Hand.LaneValue.lean ====
/- The two results of a block for one row, in terms of the staged blocks. -/
module

public import proofs.«01_k».proof.Proof.Hand.TileValue
public import Idealize.ShloMosaic.Lib.Pipeline.ValueKit.Tiles

@[expose] public section

noncomputable section

namespace Cert.KernelIdeal.Hand

open Idealize.ShloMosaic Idealize.SL.Sem
open Facts₀ Facts
open Cert.KernelIdeal.Gen
open Cert.Head

variable (x0 : Vec Ideal S512x8192 .fp8e4m3) (x1 : Vec Ideal S1x512 .f32) (x2 : Vec Ideal S2688x128 .i32)
  (x3 : Vec Ideal S2688x1 .i32) (x4 : Vec Ideal S2688x1 .f32) (x5 : Vec Ideal S2688x8192 .fp8e4m3)

/-- The cells of a row, from the staged blocks. -/
def rowCell (t : Fin 63) (r : Fin 2688) : Fin 512 → EReal :=
  cell t (fun w => x2 (ix2 r w)) (fun n => ∑ d : Fin 8192, x5 (ix2 r d) * x0 (ix2 n d)) (x4 (ix2 r 0)) (fun n => x1 (ix2 0 n))

section Reads

variable (o : ℕ) (k : Fin 448) (r : Fin 2688) (hr : r.val = o + k.val)

include hr in
theorem ld_codes (ho) (d : Fin 8192) : View.ld x5 (Rect.unit (s := S2688x8192) ![o, 0] S448x8192.size ho) (ix2 k d) = x5 (ix2 r d) :=
  View.ld_unit_apply_of x5 ![o, 0] S448x8192.size ho (ix2 k d) (ix2 r d) fun a => by
    fin_cases a
    · exact hr
    · exact (Nat.zero_add _).symm

include hr in
theorem ld_col {e : EltTy} (x : Vec Ideal S2688x1 e) (ho) : View.ld x (Rect.unit (s := S2688x1) ![o, 0] S448x1.size ho) (ix2 k 0) = x (ix2 r 0) :=
  View.ld_unit_apply_of x ![o, 0] S448x1.size ho (ix2 k 0) (ix2 r 0) fun a => by
    fin_cases a
    · exact hr
    · exact (Nat.zero_add _).symm

include hr in
theorem ld_mask (ho) (w : Fin 128) : View.ld x2 (Rect.unit (s := S2688x128) ![o, 0] S448x128.size ho) (ix2 k w) = x2 (ix2 r w) :=
  View.ld_unit_apply_of x2 ![o, 0] S448x128.size ho (ix2 k w) (ix2 r w) fun a => by
    fin_cases a
    · exact hr
    · exact (Nat.zero_add _).symm

theorem ld_w (ho) (n : Fin 512) (d : Fin 8192) : View.ld x0 (Rect.unit (s := S512x8192) ![0, 0] S512x8192.size ho) (ix2 n d) = x0 (ix2 n d) :=
  View.ld_unit_apply_of x0 ![0, 0] S512x8192.size ho (ix2 n d) (ix2 n d) fun a => by
    fin_cases a
    · exact (Nat.zero_add _).symm
    · exact (Nat.zero_add _).symm

theorem ld_ws (c : Fin 4) (ho) (l : Fin 128) : View.ld x1 (Rect.unit (s := S1x512) ![0, 128 * c.val] S1x128.size ho) (ix2 0 l) = x1 (ix2 0 (col c l)) :=
  View.ld_unit_apply_of x1 ![0, 128 * c.val] S1x128.size ho (ix2 0 l) (ix2 0 (col c l)) fun a => by
    fin_cases a
    · exact (Nat.zero_add _).symm
    · rfl

end Reads

section Rows

variable (i : grid0.Coords) (t : Fin 63) (hi : (i 0).val = t.val) (r : Fin 2688)

theorem tileCell_eq (codes : FVec Ideal S448x8192 .fp8e4m3) (w : FVec Ideal S512x8192 .fp8e4m3) (xs : FVec Ideal S448x1 .f32) (mt : IVec S448x128 32) (k : Fin 448)
    (h5 : ∀ d, codes (ix2 k d) = x5 (ix2 r d)) (h0 : ∀ n d, w (ix2 n d) = x0 (ix2 n d)) (h4 : xs (ix2 k 0) = x4 (ix2 r 0)) (h2 : ∀ w, mt (ix2 k w) = x2 (ix2 r w)) :
    tileCell t codes w xs mt (fun n => x1 (ix2 0 n)) k = rowCell x0 x1 x2 x4 x5 t r := by
  unfold tileCell rowCell
  simp only [h5, h0, h4, h2]

include hi in
/-- Lane 0 of a row: the log-sum-exp of its cells. -/
theorem laneAt_zero : laneAt i x0 x1 x2 x3 x4 x5 0 r = blockLse (rowCell x0 x1 x2 x4 x5 t r) := by
  have hr : r.val = 448 * (r.val / 448) + (⟨r.val % 448, Nat.mod_lt _ (by decide)⟩ : Fin 448).val := (Nat.div_add_mod _ _).symm
  unfold laneAt tileAt
  rw [hi]
  refine (tileV_zero t _ _ _ _ _ _ _ _ _ (fun n => x1 (ix2 0 n)) (ld_ws x1 0 _) (ld_ws x1 1 _) (ld_ws x1 2 _) (ld_ws x1 3 _) _).trans (congrArg blockLse ?_)
  exact tileCell_eq x0 x1 x2 x4 x5 t r _ _ _ _ _ (ld_codes x5 _ _ r hr _) (ld_w x0 _) (ld_col _ _ r hr x4 _) (ld_mask x2 _ _ r hr _)

open Classical in
include hi in
/-- Lane 1 of a row: the cell of the target, when the block has it. -/
theorem laneAt_one : laneAt i x0 x1 x2 x3 x4 x5 1 r
    = Finset.univ.sup fun n : Fin 512 => if BitVec.ofNat 32 (512 * t.val + n.val) = x3 (ix2 r 0) then rowCell x0 x1 x2 x4 x5 t r n else ⊥ := by
  have hr : r.val = 448 * (r.val / 448) + (⟨r.val % 448, Nat.mod_lt _ (by decide)⟩ : Fin 448).val := (Nat.div_add_mod _ _).symm
  unfold laneAt tileAt
  rw [hi]
  refine (tileV_one t _ _ _ _ _ _ _ _ _ (fun n => x1 (ix2 0 n)) (ld_ws x1 0 _) (ld_ws x1 1 _) (ld_ws x1 2 _) (ld_ws x1 3 _) _).trans ?_
  rw [tileCell_eq x0 x1 x2 x4 x5 t r _ _ _ _ _ (ld_codes x5 _ _ r hr _) (ld_w x0 _) (ld_col _ _ r hr x4 _) (ld_mask x2 _ _ r hr _)]
  refine Finset.sup_congr rfl fun n _ => ?_
  exact if_congr (iff_of_eq (congrArg (fun z => BitVec.ofNat 32 (512 * t.val + n.val) = z) (ld_col _ _ r hr x3 _))) rfl rfl

end Rows

end Cert.KernelIdeal.Hand

end
-- ==== Proof.Hand.BlockValue.lean ====
/- The staged blocks of the head call read at an index, in terms of the arguments. -/
module

public import proofs.«01_k».proof.Proof.Hand.Run
public import proofs.«01_k».proof.Proof.Hand.Host
public import Idealize.ShloMosaic.Lib.Pipeline.ValueKit
public import Idealize.ShloMosaic.Lib.StableHlo.ReadAt
public import Idealize.ShloMosaic.Lib.Pointwise

@[expose] public section

set_option maxRecDepth 16384

noncomputable section

namespace Cert.KernelIdeal.Hand

open Cert.KernelIdeal.Gen
open Idealize.ShloMosaic Idealize.ShloMosaic.TcCoe
open Idealize.SL.Sem

variable {F : FTy → Type} [FloatOps F]

variable (m : (ℓ : Loc nD τ sig) → Buf (Elt F) ℓ)

/-- The weights with their edge rows below. -/
def catW (a : FVec F S32000x8192 .fp8e4m3) (b : FVec F S256x8192 .fp8e4m3) : FVec F S32256x8192 .fp8e4m3 :=
  concatenate S32256x8192 0 [⟨S32000x8192, a⟩, ⟨S256x8192, b⟩] concatenates_S32000x8192_S256x8192_S32256x8192_d0
/-- The weights' scales with their edge columns. -/
def catWs (a : FVec F S32000 .f32) (b : FVec F S1x256 .f32) : FVec F S1x32256 .f32 :=
  concatenate S1x32256 1 [⟨S1x32000, shapeCast S1x32000 a shapeCasts_S32000_S1x32000⟩, ⟨S1x256, b⟩] concatenates_S1x32000_S1x256_S1x32256_d1
/-- The mask words by row with their edge columns. -/
def catMask (a : IVec S448x6x1000 32) (b : IVec S2688x24 32) : IVec S2688x1024 32 :=
  concatenate S2688x1024 1 [⟨S2688x1000, shapeCast S2688x1000 (transpose S6x448x1000 [1, 0, 2] a transposes_S448x6x1000_S6x448x1000_1_0_2) shapeCasts_S6x448x1000_S2688x1000⟩, ⟨S2688x24, b⟩]
    concatenates_S2688x1000_S2688x24_S2688x1024_d1
/-- The targets by row. -/
def rowTgt (a : IVec S448x6 32) : IVec S2688x1 32 :=
  shapeCast S2688x1 (transpose S6x448 [1, 0] a transposes_S448x6_S6x448_1_0) shapeCasts_S6x448_S2688x1

theorem V_main_v18 (c : Dev nD) : (V m c main_v18 : FVec F S32256x8192 .fp8e4m3) = catW (m ((c : Thread nD τ).loc main_arg2)) (m ((c : Thread nD τ).loc main_arg7)) := by
  unfold V
  simp only [hostOps0, hostOps0_1, hostOps0_2, hostOps0_3, hostOps0_4, hostOps0_5, List.flatten_cons, List.flatten_nil, List.append_nil, List.cons_append, List.nil_append]
  after_reads_simp
  rfl

theorem V_main_v19 (c : Dev nD) : (V m c main_v19 : FVec F S1x32256 .f32) = catWs (m ((c : Thread nD τ).loc main_arg3)) (m ((c : Thread nD τ).loc main_arg8)) := by
  unfold V
  simp only [hostOps0, hostOps0_1, hostOps0_2, hostOps0_3, hostOps0_4, hostOps0_5, List.flatten_cons, List.flatten_nil, List.append_nil, List.cons_append, List.nil_append]
  after_reads_simp
  rfl

theorem V_main_v20 (c : Dev nD) : (V m c main_v20 : IVec S2688x1024 32) = catMask (m ((c : Thread nD τ).loc main_arg4)) (m ((c : Thread nD τ).loc main_arg9)) := by
  unfold V
  simp only [hostOps0, hostOps0_1, hostOps0_2, hostOps0_3, hostOps0_4, hostOps0_5, List.flatten_cons, List.flatten_nil, List.append_nil, List.cons_append, List.nil_append]
  after_reads_simp
  rfl

theorem V_main_v3 (c : Dev nD) : (V m c main_v3 : IVec S2688x1 32) = rowTgt (m ((c : Thread nD τ).loc main_arg5)) := by
  unfold V
  simp only [hostOps0, hostOps0_1, hostOps0_2, hostOps0_3, hostOps0_4, hostOps0_5, List.flatten_cons, List.flatten_nil, List.append_nil, List.cons_append, List.nil_append]
  after_reads_simp
  rfl

theorem catW_apply (a : FVec F S32000x8192 .fp8e4m3) (b : FVec F S256x8192 .fp8e4m3) (v : Fin 32256) (d : Fin 8192) (h : v.val < 32000) :
    catW a b (ix2 v d) = a (ix2 ⟨v.val, h⟩ d) := by
  pointwise [catW]
  rw [dif_pos h]

theorem catWs_apply (a : FVec F S32000 .f32) (b : FVec F S1x256 .f32) (v : Fin 32256) (h : v.val < 32000) :
    catWs a b (ix2 0 v) = a (ix1 ⟨v.val, h⟩) := by
  pointwise [catWs]
  rw [dif_pos h]

theorem catMask_apply (a : IVec S448x6x1000 32) (b : IVec S2688x24 32) (r : Fin 2688) (w : Fin 1024) (h : w.val < 1000) :
    catMask a b (ix2 r w) = a (ix3 ⟨r.val % 448, Nat.mod_lt _ (by decide)⟩ ⟨r.val / 448, by omega⟩ ⟨w.val, h⟩) := by
  pointwise [catMask]
  rw [dif_pos h]

theorem rowTgt_apply (a : IVec S448x6 32) (r : Fin 2688) :
    rowTgt a (ix2 r 0) = a (ix2 ⟨r.val % 448, Nat.mod_lt _ (by decide)⟩ ⟨r.val / 448, by omega⟩) := by
  pointwise [rowTgt]

variable (hO : Ok m) (c : Dev nD) (t : Fin (cfgM m hO).N)

theorem emb_0 (A : (pcfg0 (F := F)).Adm) (t : Fin (cfg0 A).N) (p : ℕ) (h : cc0_transform_0 k0_off1_inb numel1_S1 A.1 (grid0.coords t) = ![p, 0]) (y : S512x8192.Idx) (a : Fin 2) :
    ((((((cfg0 A).win 0).blk t).view.emb y) a : Fin _) : ℕ) = (![p, 0] : Fin 2 → ℕ) a * S512x8192.size a + (y a).val :=
  (Pipeline.Window.rect_emb_val ((cfg0 A).win 0) t y a rfl).trans (congrArg (fun f : Fin 2 → ℕ => f a * S512x8192.size a + (y a).val) h)
theorem emb_1 (A : (pcfg0 (F := F)).Adm) (t : Fin (cfg0 A).N) (p : ℕ) (h : cc0_transform_1 k0_off1_inb numel1_S1 A.1 (grid0.coords t) = ![0, p]) (y : S1x512.Idx) (a : Fin 2) :
    ((((((cfg0 A).win 1).blk t).view.emb y) a : Fin _) : ℕ) = (![0, p] : Fin 2 → ℕ) a * S1x512.size a + (y a).val :=
  (Pipeline.Window.rect_emb_val ((cfg0 A).win 1) t y a rfl).trans (congrArg (fun f : Fin 2 → ℕ => f a * S1x512.size a + (y a).val) h)
theorem emb_2 (A : (pcfg0 (F := F)).Adm) (t : Fin (cfg0 A).N) (p : ℕ) (h : cc0_transform_2 k0_off1_inb numel1_S1 A.1 (grid0.coords t) = ![0, p]) (y : S2688x128.Idx) (a : Fin 2) :
    ((((((cfg0 A).win 2).blk t).view.emb y) a : Fin _) : ℕ) = (![0, p] : Fin 2 → ℕ) a * S2688x128.size a + (y a).val :=
  (Pipeline.Window.rect_emb_val ((cfg0 A).win 2) t y a rfl).trans (congrArg (fun f : Fin 2 → ℕ => f a * S2688x128.size a + (y a).val) h)
theorem emb_3 (y : S2688x1.Idx) (a : Fin 2) : ((((((cfgM m hO).win 3).blk t).view.emb y) a : Fin _) : ℕ) = (![0, 0] : Fin 2 → ℕ) a * S2688x1.size a + (y a).val :=
  Pipeline.Window.rect_emb_val ((cfgM m hO).win 3) t y a rfl
theorem emb_4 (y : S2688x1.Idx) (a : Fin 2) : ((((((cfgM m hO).win 4).blk t).view.emb y) a : Fin _) : ℕ) = (![0, 0] : Fin 2 → ℕ) a * S2688x1.size a + (y a).val :=
  Pipeline.Window.rect_emb_val ((cfgM m hO).win 4) t y a rfl
theorem emb_5 (y : S2688x8192.Idx) (a : Fin 2) : ((((((cfgM m hO).win 5).blk t).view.emb y) a : Fin _) : ℕ) = (![0, 0] : Fin 2 → ℕ) a * S2688x8192.size a + (y a).val :=
  Pipeline.Window.rect_emb_val ((cfgM m hO).win 5) t y a rfl

theorem iblk_0 (n : Fin 512) (d : Fin 8192) (v : Fin 32256) (hv : v.val = (preAt m (grid0.coords t)).toNat * 512 + n.val) :
    (iblk m hO c 0 t : FVec F S512x8192 .fp8e4m3) (ix2 n d) = catW (m ((c : Thread nD τ).loc main_arg2)) (m ((c : Thread nD τ).loc main_arg7)) (ix2 v d) := by
  refine (congrArg (V m c main_v18 : FVec F S32256x8192 .fp8e4m3) (funext fun a => Fin.ext ?_)).trans (congrFun (V_main_v18 m c) (ix2 v d))
  refine (emb_0 (adm m hO) t _ (ix_0 m (grid0.coords t)) (ix2 n d) a).trans ?_
  match a with
  | ⟨0, _⟩ => exact hv.symm
  | ⟨1, _⟩ => exact (congrArg (· + d.val) (Nat.zero_mul 8192)).trans (Nat.zero_add _)

theorem iblk_1 (n : Fin 512) (v : Fin 32256) (hv : v.val = (preAt m (grid0.coords t)).toNat * 512 + n.val) :
    (iblk m hO c 1 t : FVec F S1x512 .f32) (ix2 0 n) = catWs (m ((c : Thread nD τ).loc main_arg3)) (m ((c : Thread nD τ).loc main_arg8)) (ix2 0 v) := by
  refine (congrArg (V m c main_v19 : FVec F S1x32256 .f32) (funext fun a => Fin.ext ?_)).trans (congrFun (V_main_v19 m c) (ix2 0 v))
  refine (emb_1 (adm m hO) t _ (ix_1 m (grid0.coords t)) (ix2 0 n) a).trans ?_
  match a with
  | ⟨0, _⟩ => rfl
  | ⟨1, _⟩ => exact hv.symm

theorem iblk_2 (r : Fin 2688) (w : Fin 128) (v : Fin 1024) (hv : v.val = (preAt m (grid0.coords t)).toNat / 8 * 128 + w.val) :
    (iblk m hO c 2 t : IVec S2688x128 32) (ix2 r w) = catMask (m ((c : Thread nD τ).loc main_arg4)) (m ((c : Thread nD τ).loc main_arg9)) (ix2 r v) := by
  refine (congrArg (V m c main_v20 : IVec S2688x1024 32) (funext fun a => Fin.ext ?_)).trans (congrFun (V_main_v20 m c) (ix2 r v))
  refine (emb_2 (adm m hO) t _ (ix_2 m (grid0.coords t)) (ix2 r w) a).trans ?_
  match a with
  | ⟨0, _⟩ => exact (congrArg (· + r.val) (Nat.zero_mul 2688)).trans (Nat.zero_add _)
  | ⟨1, _⟩ => exact hv.symm

theorem iblk_3 (r : Fin 2688) : (iblk m hO c 3 t : IVec S2688x1 32) (ix2 r 0) = rowTgt (m ((c : Thread nD τ).loc main_arg5)) (ix2 r 0) := by
  refine (congrArg (V m c main_v3 : IVec S2688x1 32) (funext fun a => Fin.ext ?_)).trans (congrFun (V_main_v3 m c) (ix2 r 0))
  refine (emb_3 m hO t (ix2 r 0) a).trans ?_
  match a with
  | ⟨0, _⟩ => exact (congrArg (· + r.val) (Nat.zero_mul 2688)).trans (Nat.zero_add _)
  | ⟨1, _⟩ => rfl

theorem iblk_4 (r : Fin 2688) : (iblk m hO c 4 t : FVec F S2688x1 .f32) (ix2 r 0) = (m ((c : Thread nD τ).loc main_arg1) : FVec F S2688x1 .f32) (ix2 r 0) := by
  refine (congrArg (V m c main_arg1 : FVec F S2688x1 .f32) (funext fun a => Fin.ext ?_)).trans (congrFun (V_main_arg1 m c) (ix2 r 0))
  refine (emb_4 m hO t (ix2 r 0) a).trans ?_
  match a with
  | ⟨0, _⟩ => exact (congrArg (· + r.val) (Nat.zero_mul 2688)).trans (Nat.zero_add _)
  | ⟨1, _⟩ => rfl

theorem iblk_5 (r : Fin 2688) (d : Fin 8192) :
    (iblk m hO c 5 t : FVec F S2688x8192 .fp8e4m3) (ix2 r d) = (m ((c : Thread nD τ).loc main_arg0) : FVec F S2688x8192 .fp8e4m3) (ix2 r d) := by
  refine (congrArg (V m c main_arg0 : FVec F S2688x8192 .fp8e4m3) (funext fun a => Fin.ext ?_)).trans (congrFun (V_main_arg0 m c) (ix2 r d))
  refine (emb_5 m hO t (ix2 r d) a).trans ?_
  match a with
  | ⟨0, _⟩ => exact (congrArg (· + r.val) (Nat.zero_mul 2688)).trans (Nat.zero_add _)
  | ⟨1, _⟩ => exact (congrArg (· + d.val) (Nat.zero_mul 8192)).trans (Nat.zero_add _)

end Cert.KernelIdeal.Hand

end
-- ==== Proof.Hand.Legal.lean ====
/- The precondition read back: every target is a token, and a mask word that is not zero has a nonzero word in its column of the rows' OR. -/
module

public import proofs.«01_k».proof.Pre_legal
public import Idealize.ShloMosaic.Lib.ReduceAll
public import Idealize.ShloMosaic.Lib.Pointwise
public import Idealize.ShloMosaic.PureOps.Ideal

@[expose] public section

set_option maxRecDepth 16384

noncomputable section

namespace Cert.Head

open Idealize.ShloMosaic

theorem pre_facts : Cert.Pre_legal.Facts where
  bcast_S_S448x6 := by decide
  reducesTo_S448x6_S_d0_1 := by decide
  h_S_ := by decide
  bcast_S_S448x6x1000 := by decide
  bcast_S_S8x1000 := by decide
  reducesTo_S8x1000_S1000_d0 := by decide
  bcast_S1000_S1x1x1000_2 := by decide
  bcast_S1x1x1000_S448x6x1000_0_1_2 := by decide
  reducesTo_S448x6x1000_S_d0_1_2 := by decide

theorem bit_cases (b : BitVec 1) : b = 0#1 ∨ b = 1#1 := by revert b; decide

theorem ori_one (a b : BitVec 1) : IntOp.ori a b = 1#1 ↔ a = 1#1 ∨ b = 1#1 := by revert a b; decide

/-- A left fold by `or` over `i1` words is 1 exactly when it started at 1 or met a 1. -/
theorem foldl_ori {ι : Type} (f : ι → BitVec 1) : ∀ (l : List ι) (init : BitVec 1),
    l.foldl (fun r n => IntOp.ori r (f n)) init = 1#1 ↔ init = 1#1 ∨ ∃ n ∈ l, f n = 1#1
  | [], init => by simp
  | a :: l, init => by
    rw [List.foldl_cons, foldl_ori f l, ori_one]
    simp [or_assoc]

/-- A reduce by `or` from zero is 1 at `j` exactly when some operand that reduces into `j` is. -/
theorem reduce_ori {s t u : Shape} {axes : List (Fin s.rank)} (x : s.Idx → BitVec 1) (init : u.Idx → BitVec 1) (h : s.ReducesTo axes t) (hu : 0 < u.numel)
    (j : t.Idx) (h0 : init (Shape.Idx.first hu) = 0#1) : Host.reduce IntOp.ori x init h hu j = 1#1 ↔ ∃ i, h.drop i = j ∧ x i = 1#1 := by
  rw [Host.reduce_eq_foldl, foldl_ori, h0]
  constructor
  · rintro (e | ⟨n, hn, e⟩)
    · exact absurd e (by decide)
    · rw [List.mem_filter] at hn
      exact ⟨n, by simpa using hn.2, e⟩
  · rintro ⟨i, hi, e⟩
    refine .inr ⟨i, ?_, e⟩
    rw [List.mem_filter]
    exact ⟨List.mem_map.2 ⟨s.rowMajor i, List.mem_finRange _, Equiv.symm_apply_apply _ _⟩, by simp [hi]⟩

theorem ofBool_one (b : Bool) : BitVec.ofBool b = 1#1 ↔ b = true := by cases b <;> decide

theorem lt_of_sge_slt (w : BitVec 32) (h0 : IntOp.cmpi .sge w 0#32 = 1#1) (h1 : IntOp.cmpi .slt w 32000#32 = 1#1) : w.toNat < 32000 := by
  have a : (0#32).sle w = true := (ofBool_one _).1 h0
  have b : w.slt 32000#32 = true := (ofBool_one _).1 h1
  rw [BitVec.sle_eq_decide, decide_eq_true_eq] at a
  rw [BitVec.slt_eq_decide, decide_eq_true_eq] at b
  have e0 : (0#32).toInt = 0 := rfl
  have e1 : (32000#32).toInt = 32000 := rfl
  rw [e0, BitVec.toInt_eq_toNat_cond] at a
  rw [e1, BitVec.toInt_eq_toNat_cond] at b
  have := w.isLt
  split at a <;> omega

theorem ne_of_cmpi {w v : BitVec 32} : IntOp.cmpi .ne w v = 1#1 ↔ w ≠ v := by
  refine (ofBool_one _).trans ?_
  simp [bne_iff_ne]

theorem eq_of_cmpi {w v : BitVec 32} : IntOp.cmpi .eq w v = 1#1 ↔ w = v := by
  refine (ofBool_one _).trans ?_
  simp

open Cert.Pre_legal in
/-- What the precondition says of the targets, the mask and the OR of its rows. -/
theorem legal_read [Facts] (a0 : FVec Ideal S2688x8192 .fp8e4m3) (a1 : FVec Ideal S2688x1 .f32) (a2 : FVec Ideal S32000x8192 .fp8e4m3) (a3 : FVec Ideal S32000 .f32)
    (a4 : IVec S448x6x1000 32) (a5 : IVec S448x6 32) (a6 : IVec S8x1000 32) (a7 : FVec Ideal S256x8192 .fp8e4m3) (a8 : FVec Ideal S1x256 .f32) (a9 : IVec S2688x24 32)
    (j : S_.Idx) (h : fn (F := Ideal) a0 a1 a2 a3 a4 a5 a6 a7 a8 a9 j = 1#1) :
    (∀ i, (a5 i).toNat < 32000) ∧ ∀ (p : Fin 448) (q : Fin 6) (k : Fin 1000), a4 (ix3 p q k) ≠ 0#32 → ∃ u : Fin 8, a6 (ix2 u k) ≠ 0#32 := by
  dsimp only [fn] at h
  obtain ⟨h5, h14⟩ := IntOp.andi_eq_one.1 h
  haveI : Subsingleton S_.Idx := ⟨fun a b => funext fun k => k.elim0⟩
  constructor
  · intro i
    have e := Host.reduce_andi_all _ _ _ _ _ h5 i
    obtain ⟨e0, e1⟩ := IntOp.andi_eq_one.1 e
    exact lt_of_sge_slt _ e0 e1
  · intro p q k hne
    have e := Host.reduce_andi_all _ _ _ _ _ h14 (ix3 p q k)
    rcases (ori_one _ _).1 e with e | e
    · exact absurd (eq_of_cmpi.1 e) hne
    · obtain ⟨i, hi, e'⟩ := (reduce_ori _ _ _ _ _ rfl).1 e
      clear e
      obtain ⟨u, k', rfl⟩ : ∃ (u : Fin 8) (k' : Fin 1000), i = ix2 u k' := ⟨i 0, i 1, by funext b; fin_cases b <;> rfl⟩
      refine ⟨u, ?_⟩
      have hk : k' = k := by
        have := congrFun hi 0
        exact this
      subst hk
      exact ne_of_cmpi.1 e'

end Cert.Head
-- ==== Proof.Hand.Spec.lean ====
/- The head's three results, stated by themselves as the mathematics: the logit of a row and a token, the tokens the mask lets through, a row's
blocks of 512 tokens, the log-sum-exp of each block and of the row, and the log-probability of the row's target token. -/
module

public import proofs.«01_k».proof.Proof.Hand.Math
public import Idealize.ShloMosaic.Lib.Pointwise

@[expose] public section

noncomputable section

namespace Cert.Head

open Idealize.ShloMosaic

section
variable (x : (⟨2, ![2688, 8192]⟩ : Shape).Idx → EReal) (s : (⟨2, ![2688, 1]⟩ : Shape).Idx → EReal)
  (w : (⟨2, ![32000, 8192]⟩ : Shape).Idx → EReal) (ws : (⟨1, ![32000]⟩ : Shape).Idx → EReal)
  (mask : (⟨3, ![448, 6, 1000]⟩ : Shape).Idx → BitVec 32) (tgt : (⟨2, ![448, 6]⟩ : Shape).Idx → BitVec 32)

/-- The mask's word `k` for row `r`: rows are laid out step first, batch second. -/
def maskWord (r : Fin 2688) (k : Fin 1000) : BitVec 32 := mask (ix3 ⟨r.val % 448, Nat.mod_lt _ (by decide)⟩ ⟨r.val / 448, by have := r.isLt; omega⟩ k)

/-- The target token of row `r`. -/
def tgtOf (r : Fin 2688) : BitVec 32 := tgt (ix2 ⟨r.val % 448, Nat.mod_lt _ (by decide)⟩ ⟨r.val / 448, by have := r.isLt; omega⟩)

/-- The logit of row `r` and token `v`: the product of the codes, times the row's scale, times the token's scale. -/
def logit (r : Fin 2688) (v : Fin 32000) : EReal := (∑ d : Fin 8192, x (ix2 r d) * w (ix2 v d)) * s (ix2 r 0) * ws (ix1 v)

/-- Whether the mask lets token `v` through in row `r`: bit `v % 32` of word `v / 32`. -/
def legalTok (r : Fin 2688) (v : Fin 32000) : Prop := bitSet (maskWord mask r ⟨v.val / 32, by have := v.isLt; omega⟩) (v.val % 32)

open Classical in
/-- The logit where the mask lets the token through, minus infinity elsewhere. -/
def masked (r : Fin 2688) (v : Fin 32000) : EReal := if legalTok mask r v then logit x s w ws r v else ⊥

/-- Row `r` cut into 63 blocks of 512 tokens, minus infinity past the last token. -/
def blocks (r : Fin 2688) (j : Fin 63) (n : Fin 512) : EReal :=
  if h : 512 * j.val + n.val < 32000 then masked x s w ws mask r ⟨512 * j.val + n.val, h⟩ else ⊥

/-- The log-sum-exp of row `r`. -/
def lseOf (r : Fin 2688) : EReal := totalLse fun j => blockLse (blocks x s w ws mask r j)

/-- The masked logit of row `r`'s target token. -/
def tgtLogit (r : Fin 2688) : EReal := if h : (tgtOf tgt r).toNat < 32000 then masked x s w ws mask r ⟨(tgtOf tgt r).toNat, h⟩ else ⊥

/-- The log-probability of row `r`'s target token, zero where the token is not let through. -/
def tlpOf (r : Fin 2688) : EReal := if ⊥ < tgtLogit x s w ws mask tgt r then tgtLogit x s w ws mask tgt r - lseOf x s w ws mask r else 0

/-- The log-sum-exp of block `j` of row `r`, zero where it has none. -/
def blkOf (r : Fin 2688) (j : Fin 63) : EReal := if ⊥ < blockLse (blocks x s w ws mask r j) then blockLse (blocks x s w ws mask r j) else 0

end

end Cert.Head
-- ==== Proof.Hand.Flags.lean ====
/- The kernel's flags and prefetched tables: a block whose flag is zero has no mask word, any other is staged at its own point. -/
module

public import proofs.«01_k».proof.Proof.Hand.LaneValue
public import proofs.«01_k».proof.Proof.Hand.BlockValue
public import proofs.«01_k».proof.Proof.Hand.Legal
public import proofs.«01_k».proof.Proof.Hand.Spec

@[expose] public section

set_option maxRecDepth 16384

noncomputable section

namespace Cert.KernelIdeal.Hand

open Idealize.ShloMosaic Idealize.ShloMosaic.TcCoe Idealize.SL.Sem
open Cert.KernelIdeal.Gen
open Cert.Head

/-- A word of the padded and blocked OR of the mask's rows is the argument's word, when it is one of the 1000. -/
theorem anyBlk_apply (x : IVec S8x1000 32) (u : Fin 8) (j : Fin 63) (k : Fin 16) (h : 16 * j.val + k.val < 1000) :
    anyBlk x (ix3 u j k) = 1#1 ↔ x (ix2 u ⟨16 * j.val + k.val, h⟩) ≠ 0#32 := by
  unfold anyBlk
  pointwise []
  rw [ne_of_cmpi, dif_pos (by omega)]
  have e : (⟨j.val * 16 + k.val, by omega⟩ : Fin 1000) = ⟨16 * j.val + k.val, h⟩ := Fin.ext (by show j.val * 16 + k.val = 16 * j.val + k.val; omega)
  rw [e]

/-- A block's flag word is zero or one, -/
theorem actBlk_cases (x : IVec S8x1000 32) (i : S63.Idx) : actBlk x i = 0#32 ∨ actBlk x i = 1#32 := by
  unfold actBlk
  show BitVec.setWidth 32 _ = 0#32 ∨ BitVec.setWidth 32 _ = 1#32
  generalize Host.reduce _ _ _ _ _ _ = b
  revert b
  decide

/-- and zero only when every word of the block is. -/
theorem actBlk_zero (x : IVec S8x1000 32) (j : Fin 63) (h0 : actBlk x (ix1 j) = 0#32) (u : Fin 8) (k : Fin 1000) (hk : k.val / 16 = j.val) : x (ix2 u k) = 0#32 := by
  by_contra hne
  have hk' : 16 * j.val + k.val % 16 = k.val := by omega
  have e : anyBlk x (ix3 u j ⟨k.val % 16, Nat.mod_lt _ (by decide)⟩) = 1#1 := by
    rw [anyBlk_apply x u j _ (by show 16 * j.val + k.val % 16 < 1000; omega)]
    have : (⟨16 * j.val + k.val % 16, by omega⟩ : Fin 1000) = k := Fin.ext hk'
    rw [this]
    exact hne
  have r : Host.reduce IntOp.ori (anyBlk x) (constantI S_ 1 0#1) reducesTo_S8x63x16_S63_d0_2 h_S_ (ix1 j) = 1#1 :=
    (reduce_ori _ _ _ _ _ rfl).2 ⟨_, by funext b; obtain rfl : b = 0 := Subsingleton.elim _ _; rfl, e⟩
  have : actBlk x (ix1 j) = 1#32 := by
    show BitVec.setWidth 32 (Host.reduce IntOp.ori (anyBlk x) (constantI S_ 1 0#1) reducesTo_S8x63x16_S63_d0_2 h_S_ (ix1 j)) = _
    rw [r]
    decide
  rw [this] at h0
  exact absurd h0 (by decide)

end Cert.KernelIdeal.Hand

end
-- ==== Proof.Hand.KernelValue.lean ====
/- What the head kernel computes: each result array is the one the mathematics names. -/
module

public import proofs.«01_k».proof.Proof.Hand.Flags
public import proofs.«01_k».proof.Proof.Hand.Final

@[expose] public section

set_option maxRecDepth 16384

noncomputable section

namespace Cert.KernelIdeal.Hand

open Idealize.ShloMosaic Idealize.ShloMosaic.TcCoe Idealize.SL.Sem
open Cert.KernelIdeal.Gen
open Cert.Head

variable (m : (ℓ : Loc nD τ sig) → Buf (Elt Ideal) ℓ) (hO : Ok m) (c : Dev nD)

/-- The arguments, by what they hold. -/
abbrev codesA : FVec Ideal S2688x8192 .fp8e4m3 := m ((c : Thread nD τ).loc main_arg0)
abbrev scalesA : FVec Ideal S2688x1 .f32 := m ((c : Thread nD τ).loc main_arg1)
abbrev wA : FVec Ideal S32000x8192 .fp8e4m3 := m ((c : Thread nD τ).loc main_arg2)
abbrev wsA : FVec Ideal S32000 .f32 := m ((c : Thread nD τ).loc main_arg3)
abbrev maskA : IVec S448x6x1000 32 := m ((c : Thread nD τ).loc main_arg4)
abbrev tgtA : IVec S448x6 32 := m ((c : Thread nD τ).loc main_arg5)
abbrev anyA : IVec S8x1000 32 := m ((c : Thread nD τ).loc main_arg6)

/-- Every word of the mask that is not zero is not zero in the OR of the mask's rows. -/
def Seen : Prop := ∀ (p : Fin 448) (q : Fin 6) (k : Fin 1000), maskA m c (ix3 p q k) ≠ 0#32 → ∃ u : Fin 8, anyA m c (ix2 u k) ≠ 0#32

theorem pt_coords (j : Fin 63) : (ix1 (n0 := 63) (grid0.coords (pt m hO j) 0) : S63.Idx) = ix1 j :=
  congrArg (fun z : Fin 63 => (ix1 z : S63.Idx)) (Fin.ext (coords0 m hO (pt m hO j)))

theorem flag_eq (j : Fin 63) : flag m c hO (pt m hO j) = actBlk (anyA m c) (ix1 j) :=
  (unit_first (tbl m 1 : IVec S63 32) (grid0.coords (pt m hO j))).trans
    ((act_word m c (grid0.coords (pt m hO j))).trans (congrArg (actBlk (anyA m c)) (pt_coords m hO j)))

/-- The blocks of row `r`. -/
abbrev rowBlocks (r : Fin 2688) (j : Fin 63) : Fin 512 → EReal := blocks (codesA m c) (scalesA m c) (wA m c) (wsA m c) (maskA m c) r j

/-- A block whose flag is zero has no legal token. -/
theorem blocks_dead (hs : Seen m c) (j : Fin 63) (h0 : flag m c hO (pt m hO j) = 0#32) (r : Fin 2688) (n : Fin 512) : rowBlocks m c r j n = ⊥ := by
  rw [flag_eq] at h0
  unfold rowBlocks blocks
  split
  · rename_i h
    unfold masked
    rw [if_neg]
    intro hb
    unfold legalTok at hb
    have hz : maskWord (maskA m c) r ⟨(512 * j.val + n.val) / 32, by omega⟩ = 0#32 := by
      by_contra hne
      obtain ⟨u, hu⟩ := hs _ _ _ hne
      exact hu (actBlk_zero (anyA m c) j h0 u _ (by show (512 * j.val + n.val) / 32 / 16 = j.val; omega))
    exact not_bitSet_zero _ (hz ▸ hb)
  · rfl

theorem pre_eq (j : Fin 63) (h1 : flag m c hO (pt m hO j) ≠ 0#32) : (preAt m (grid0.coords (pt m hO j))).toNat = j.val := by
  obtain rfl : c = 0 := Subsingleton.elim _ _
  rw [flag_eq] at h1
  have ha : actBlk (anyA m 0) (ix1 j) = 1#32 := (actBlk_cases _ _).resolve_left h1
  unfold preAt
  rw [pt_coords]
  exact (preBlk_toNat _ _).2 ha

/-- Cells made from the row's and the block's own values are the row's block. -/
theorem rowCell_of (x0 : Vec Ideal S512x8192 .fp8e4m3) (x1 : Vec Ideal S1x512 .f32) (x2 : Vec Ideal S2688x128 .i32) (x4 : Vec Ideal S2688x1 .f32) (x5 : Vec Ideal S2688x8192 .fp8e4m3)
    (j : Fin 63) (r : Fin 2688) (h0 : ∀ (n : Fin 512) (d : Fin 8192) (h : 512 * j.val + n.val < 32000), x0 (ix2 n d) = wA m c (ix2 ⟨512 * j.val + n.val, h⟩ d))
    (h1 : ∀ (n : Fin 512) (h : 512 * j.val + n.val < 32000), x1 (ix2 0 n) = wsA m c (ix1 ⟨512 * j.val + n.val, h⟩))
    (h2 : ∀ (n : Fin 512) (h : 512 * j.val + n.val < 32000), x2 (ix2 r (wordCol j n)) = maskWord (maskA m c) r ⟨(512 * j.val + n.val) / 32, by omega⟩)
    (h4 : x4 (ix2 r 0) = scalesA m c (ix2 r 0)) (h5 : ∀ d, x5 (ix2 r d) = codesA m c (ix2 r d)) : rowCell x0 x1 x2 x4 x5 j r = rowBlocks m c r j := by
  classical
  funext n
  unfold rowCell cell rowBlocks blocks
  by_cases h : 512 * j.val + n.val < 32000
  · rw [dif_pos h]
    unfold masked logit
    have hok : okAt j (fun w => x2 (ix2 r w)) n ↔ legalTok (maskA m c) r ⟨512 * j.val + n.val, h⟩ := by
      unfold okAt legalTok
      rw [show (fun w => x2 (ix2 r w)) (wordCol j n) = maskWord (maskA m c) r ⟨(512 * j.val + n.val) / 32, by omega⟩ from h2 n h]
      have e : n.val % 32 = (512 * j.val + n.val) % 32 := by omega
      rw [e]
      exact and_iff_left h
    refine if_congr hok ?_ rfl
    rw [show (fun n => x1 (ix2 0 n)) n = wsA m c (ix1 ⟨512 * j.val + n.val, h⟩) from h1 n h, h4]
    refine congrArg (fun z => z * scalesA m c (ix2 r 0) * wsA m c (ix1 ⟨512 * j.val + n.val, h⟩)) (Finset.sum_congr rfl fun d _ => ?_)
    rw [h0 n d h, h5]
  · rw [dif_neg h]
    exact if_neg fun hb => h hb.2

/-- The cells of a row at the point of a block with a flag are the row's block. -/
theorem rowCell_eq (j : Fin 63) (h1 : flag m c hO (pt m hO j) ≠ 0#32) (r : Fin 2688) :
    rowCell (iblk m hO c 0 (pt m hO j)) (iblk m hO c 1 (pt m hO j)) (iblk m hO c 2 (pt m hO j)) (iblk m hO c 4 (pt m hO j)) (iblk m hO c 5 (pt m hO j)) j r
      = rowBlocks m c r j := by
  have hp := pre_eq m hO c j h1
  refine rowCell_of m c _ _ _ _ _ j r (fun n d h => ?_) (fun n h => ?_) (fun n h => ?_) (iblk_4 m hO c (pt m hO j) r) (fun d => iblk_5 m hO c (pt m hO j) r d)
  · exact (iblk_0 m hO c (pt m hO j) n d ⟨512 * j.val + n.val, by omega⟩ (by rw [hp]; show 512 * j.val + n.val = _; omega)).trans (catW_apply _ _ _ _ h)
  · exact (iblk_1 m hO c (pt m hO j) n ⟨512 * j.val + n.val, by omega⟩ (by rw [hp]; show 512 * j.val + n.val = _; omega)).trans (catWs_apply _ _ _ h)
  · exact (iblk_2 m hO c (pt m hO j) r (wordCol j n) ⟨(512 * j.val + n.val) / 32, by omega⟩
      (by rw [hp]; show (512 * j.val + n.val) / 32 = j.val / 8 * 128 + (j.val % 8 * 16 + n.val / 32); omega)).trans (catMask_apply _ _ _ _ (by show (512 * j.val + n.val) / 32 < 1000; omega))

/-- What the kernel keeps of each block is its log-sum-exp. -/
theorem lseAt_eq (hs : Seen m c) (j : Fin 63) (r : Fin 2688) : lseAt m c hO j r = blockLse (rowBlocks m c r j) := by
  unfold lseAt
  by_cases h0 : flag m c hO (pt m hO j) = 0#32
  · rw [if_pos h0, blockLse_bot _ (blocks_dead m hO c hs j h0 r)]
    exact ofBits_negInf
  · rw [if_neg h0]
    exact (laneAt_zero _ _ _ _ _ _ _ j (coords0 m hO (pt m hO j)) r).trans (congrArg blockLse (rowCell_eq m hO c j h0 r))

open Classical in
/-- What one block adds to the target's maximum. -/
def tgtPart (r : Fin 2688) (j : Fin 63) : EReal :=
  Finset.univ.sup fun n : Fin 512 => if BitVec.ofNat 32 (512 * j.val + n.val) = tgtOf (tgtA m c) r then rowBlocks m c r j n else ⊥

theorem tgtAt_step (hs : Seen m c) (r : Fin 2688) (n : ℕ) (hn : n < 63) : tgtAt m c hO r (n + 1) = max (tgtAt m c hO r n) (tgtPart m c r ⟨n, hn⟩) := by
  rw [tgtAt, dif_pos hn]
  by_cases h0 : flag m c hO (pt m hO ⟨n, hn⟩) = 0#32
  · rw [if_pos h0]
    have e : tgtPart m c r ⟨n, hn⟩ = ⊥ := by
      unfold tgtPart
      refine (Finset.sup_congr rfl fun k _ => ?_).trans (Finset.sup_bot _)
      rw [blocks_dead m hO c hs _ h0]
      exact ite_self _
    rw [e]
    exact (max_bot_right _).symm
  · rw [if_neg h0]
    refine congrArg (max (tgtAt m c hO r n)) ?_
    refine (laneAt_one _ _ _ _ _ _ _ ⟨n, hn⟩ (coords0 m hO (pt m hO ⟨n, hn⟩)) r).trans (Finset.sup_congr rfl fun k _ => ?_)
    have e3 : (iblk m hO c 3 (pt m hO ⟨n, hn⟩) : IVec S2688x1 32) (ix2 r 0) = tgtOf (tgtA m c) r := (iblk_3 m hO c _ r).trans (rowTgt_apply _ r)
    have key : ∀ (z : BitVec 32) (u : EReal), z = tgtOf (tgtA m c) r → u = rowBlocks m c r ⟨n, hn⟩ k →
        (if BitVec.ofNat 32 (512 * n + k.val) = z then u else ⊥) = if BitVec.ofNat 32 (512 * n + k.val) = tgtOf (tgtA m c) r then rowBlocks m c r ⟨n, hn⟩ k else ⊥ := by
      rintro z u rfl rfl
      rfl
    exact key _ _ e3 (congrFun (rowCell_eq m hO c _ h0 r) k)

/-- The maximum over the blocks is the target's masked logit. -/
theorem tgtAt_eq (hs : Seen m c) (r : Fin 2688) (ht : (tgtOf (tgtA m c) r).toNat < 32000) :
    tgtAt m c hO r 63 = tgtLogit (codesA m c) (scalesA m c) (wA m c) (wsA m c) (maskA m c) (tgtA m c) r := by
  classical
  generalize hq : tgtLogit (codesA m c) (scalesA m c) (wA m c) (wsA m c) (maskA m c) (tgtA m c) r = q
  unfold tgtLogit at hq
  rw [dif_pos ht] at hq
  have hlt := ht
  have key : ∀ (n : ℕ) (k : ℕ), n < 63 → k < 512 → (BitVec.ofNat 32 (512 * n + k) = tgtOf (tgtA m c) r ↔ 512 * n + k = (tgtOf (tgtA m c) r).toNat) := by
    intro n k hn hk
    constructor
    · intro e; rw [← e, BitVec.toNat_ofNat]; omega
    · intro e; rw [e, BitVec.ofNat_toNat, BitVec.setWidth_eq]
  generalize htn : (tgtOf (tgtA m c) r).toNat = T at key hlt
  have step : ∀ n, n ≤ 63 → tgtAt m c hO r n = if T / 512 < n then q else ⊥ := by
    intro n
    induction n with
    | zero => intro _; rw [if_neg (Nat.not_lt_zero _)]; exact ofBits_negInf
    | succ n ih =>
      intro hn
      rw [tgtAt_step m hO c hs r n (by omega), ih (by omega)]
      by_cases hd : T / 512 = n
      · have e : tgtPart m c r ⟨n, by omega⟩ = q := by
          unfold tgtPart
          refine (sup_single _ _ ⟨T % 512, Nat.mod_lt _ (by decide)⟩ ((key n _ (by omega) (Nat.mod_lt _ (by decide))).2 (by omega)) fun k hk => Fin.ext ?_).trans ?_
          · have := (key n k.val (by omega) k.isLt).1 hk
            show k.val = T % 512
            omega
          · unfold rowBlocks blocks
            have e2 : 512 * n + T % 512 = T := by omega
            rw [dif_pos (show 512 * n + T % 512 < 32000 by omega), ← hq]
            exact congrArg (masked _ _ _ _ _ r) (Fin.ext (e2.trans htn.symm))
        rw [e, if_neg (by omega), if_pos (by omega)]
        exact max_bot_left _
      · have e : tgtPart m c r ⟨n, by omega⟩ = ⊥ := by
          unfold tgtPart
          refine (Finset.sup_congr rfl fun k _ => ?_).trans (Finset.sup_bot _)
          refine if_neg fun hk => ?_
          have := (key n k.val (by omega) k.isLt).1 hk
          omega
        rw [e]
        refine (max_bot_right _).trans (if_congr ?_ rfl rfl)
        omega
  rw [step 63 (le_refl _), if_pos (by omega)]

theorem pay5_apply (v : FVec Ideal S63x2688 .f32) (r : Fin 2688) : k0_pay5 (F := Ideal) v (ix2 0 r) = totalLse fun j => v (ix2 j r) := by
  pointwise [k0_pay5]
  rw [fold_max]
  rfl

theorem pay6_apply (v : FVec Ideal S63x2688 .f32) (t : FVec Ideal S1x2688 .f32) (r : Fin 2688) :
    k0_pay6 (F := Ideal) v t (ix2 0 r) = if ⊥ < t (ix2 0 r) then t (ix2 0 r) - totalLse (fun j => v (ix2 j r)) else 0 := by
  rw [← pay5_apply]
  generalize hk : k0_pay5 (F := Ideal) v = k
  unfold k0_pay6
  rw [hk]
  pointwise []
  rw [ofBits_negInf]

theorem pay7_apply (v : FVec Ideal S63x2688 .f32) (j : Fin 63) (r : Fin 2688) : k0_pay7 (F := Ideal) v (ix2 j r) = if ⊥ < v (ix2 j r) then v (ix2 j r) else 0 := by
  pointwise [k0_pay7]
  rw [ofBits_negInf]

/-- The three result arrays, at an index. -/
theorem res6_apply (hs : Seen m c) (r : Fin 2688) : (res6 m c hO : FVec Ideal S1x2688 .f32) (ix2 0 r) = lseOf (codesA m c) (scalesA m c) (wA m c) (wsA m c) (maskA m c) r := by
  refine (pay5_apply (endLse m c hO) r).trans (congrArg totalLse (funext fun j => ?_))
  exact lseAt_eq m hO c hs j r

theorem res7_apply (hs : Seen m c) (r : Fin 2688) (ht : (tgtOf (tgtA m c) r).toNat < 32000) :
    (res7 m c hO : FVec Ideal S1x2688 .f32) (ix2 0 r) = tlpOf (codesA m c) (scalesA m c) (wA m c) (wsA m c) (maskA m c) (tgtA m c) r := by
  refine (pay6_apply (endLse m c hO) (endTgt m c hO) r).trans ?_
  have e1 : endTgt m c hO (ix2 0 r) = tgtLogit (codesA m c) (scalesA m c) (wA m c) (wsA m c) (maskA m c) (tgtA m c) r := tgtAt_eq m hO c hs r ht
  have e2 : (totalLse fun j => endLse m c hO (ix2 j r)) = lseOf (codesA m c) (scalesA m c) (wA m c) (wsA m c) (maskA m c) r :=
    congrArg totalLse (funext fun j => lseAt_eq m hO c hs j r)
  rw [e1, e2]
  rfl

theorem res8_apply (hs : Seen m c) (j : Fin 63) (r : Fin 2688) :
    (res8 m c hO : FVec Ideal S63x2688 .f32) (ix2 j r) = blkOf (codesA m c) (scalesA m c) (wA m c) (wsA m c) (maskA m c) r j := by
  refine (pay7_apply (endLse m c hO) j r).trans ?_
  have e : endLse m c hO (ix2 j r) = blockLse (rowBlocks m c r j) := lseAt_eq m hO c hs j r
  rw [e]
  rfl

end Cert.KernelIdeal.Hand

end
-- ==== Proof.Hand.RefRun.lean ====
/- What the reference computes after its product: its host operations as functions of whole arrays, and the three results as those functions of the
product and the arguments. -/
module

public import proofs.«01_k».proof.Proof.Gen.ReferenceIdeal.Frame
public import Idealize.ShloMosaic.Lib.StableHlo.RunRead
public import Idealize.ShloMosaic.Lib.Pipeline.ValueKit

@[expose] public section

set_option maxRecDepth 16384

noncomputable section

namespace Cert.ReferenceIdeal.Hand

open Idealize.ShloMosaic Idealize.ShloMosaic.TcCoe Idealize.ShloMosaic.Tactic Idealize.SL.Sem
open Cert.ReferenceIdeal.Gen

variable {F : FTy → Type} [FloatOps F]

/-- The logits, the mask's words by row, the targets by row. -/
def logitsV (p : FVec F S2688x32000 .f32) (s : FVec F S2688x1 .f32) (ws : FVec F S32000 .f32) : FVec F S2688x32000 .f32 :=
  mulf (mulf p (broadcastInDim S2688x32000 ![0, 1] bcast_S2688x1_S2688x32000_0_1 s))
    (broadcastInDim S2688x32000 ![0, 1] bcast_S1x32000_S2688x32000_0_1 (broadcastInDim S1x32000 ![1] bcast_S32000_S1x32000_1 ws))
def wordsV (mask : IVec S448x6x1000 32) : IVec S2688x1000 32 :=
  shapeCast S2688x1000 (transpose S6x448x1000 [1, 0, 2] mask transposes_S448x6x1000_S6x448x1000_1_0_2) shapeCasts_S6x448x1000_S2688x1000
def tgtV (tgt : IVec S448x6 32) : IVec S2688 32 :=
  shapeCast S2688 (transpose S6x448 [1, 0] tgt transposes_S448x6_S6x448_1_0) shapeCasts_S6x448_S2688

/-- The tokens the mask lets through. -/
def bitsV (w : IVec S2688x1000 32) : IVec S2688x1000x32 32 :=
  andi (Host.shrsi (broadcastInDim S2688x1000x32 ![0, 1, 2] bcast_S2688x1000x1_S2688x1000x32_0_1_2 (broadcastInDim S2688x1000x1 ![0, 1] bcast_S2688x1000_S2688x1000x1_0_1 w))
      (broadcastInDim S2688x1000x32 ![0, 1, 2] bcast_S1x1x32_S2688x1000x32_0_1_2 (broadcastInDim S1x1x32 ![2] bcast_S32_S1x1x32_2 (iotaInDim S32 32 0))))
    (broadcastInDim S2688x1000x32 ![] bcast_S_S2688x1000x32 (constantI S_ 32 1#32))
def allowedV (w : IVec S2688x1000 32) : IVec S2688x32000 1 :=
  cmpi .ne (shapeCast S2688x32000 (bitsV w) shapeCasts_S2688x1000x32_S2688x32000) (broadcastInDim S2688x32000 ![] bcast_S_S2688x32000 (constantI S_ 32 0#32))

/-- The masked logits, padded and cut into blocks. -/
def maskedV (a : IVec S2688x32000 1) (l : FVec F S2688x32000 .f32) : FVec F S2688x32000 .f32 :=
  select a l (broadcastInDim S2688x32000 ![] bcast_S_S2688x32000 (constant S_ .f32 0xFF800000#32))
def blocksV (x : FVec F S2688x32000 .f32) : FVec F S2688x63x512 .f32 :=
  shapeCast S2688x63x512 (pad S2688x32256 ![0, 0] ![0, 256] ![0, 0] x (constant S_ .f32 0xFF800000#32) pads_S2688x32000_S2688x32256_000_02560 h_S_) shapeCasts_S2688x32256_S2688x63x512

/-- The blocks' maxima, which of them are finite, and the shifts. -/
def maxV (x : FVec F S2688x63x512 .f32) : FVec F S2688x63 .f32 :=
  Host.reduce FloatOps.maximumf x (constant S_ .f32 0xFF800000#32) reducesTo_S2688x63x512_S2688x63_d2 h_S_
def aboveV (x : FVec F S2688x63 .f32) : IVec S2688x63 1 := cmpf .ogt x (broadcastInDim S2688x63 ![] bcast_S_S2688x63 (constant S_ .f32 0xFF800000#32))
def orZeroV (h : IVec S2688x63 1) (x : FVec F S2688x63 .f32) : FVec F S2688x63 .f32 :=
  select h x (broadcastInDim S2688x63 ![] bcast_S_S2688x63 (constant S_ .f32 0x00000000#32))

/-- The log-sum-exp of the blocks. -/
def blseOf (s : FVec F S2688x63 .f32) (x : FVec F S2688x63x512 .f32) : FVec F S2688x63 .f32 :=
  addf s (Host.log (Host.reduceAdd (Host.exp (subf x (broadcastInDim S2688x63x512 ![0, 1, 2] bcast_S2688x63x1_S2688x63x512_0_1_2
    (broadcastInDim S2688x63x1 ![0, 1] bcast_S2688x63_S2688x63x1_0_1 s)))) (constant S_ .f32 0x00000000#32) reducesTo_S2688x63x512_S2688x63_d2 h_S_))
def blseV (x : FVec F S2688x63x512 .f32) : FVec F S2688x63 .f32 := blseOf (orZeroV (aboveV (maxV x)) (maxV x)) x

/-- The log-sum-exp of the rows. -/
def rowMaxV (b : FVec F S2688x63 .f32) : FVec F S2688 .f32 := Host.reduce FloatOps.maximumf b (constant S_ .f32 0xFF800000#32) reducesTo_S2688x63_S2688_d1 h_S_
def lseV (b : FVec F S2688x63 .f32) : FVec F S2688 .f32 :=
  addf (rowMaxV b) (Host.log (Host.reduceAdd (Host.exp (subf b (broadcastInDim S2688x63 ![0, 1] bcast_S2688x1_S2688x63_0_1
    (broadcastInDim S2688x1 ![0] bcast_S2688_S2688x1_0 (rowMaxV b))))) (constant S_ .f32 0x00000000#32) reducesTo_S2688x63_S2688_d1 h_S_))

/-- One column index a row, as a gather reads it: a negative one counted from the end; and whether it is in range. -/
def wrapV (n : BitVec 32) (t : IVec S2688 32) : IVec S2688x1x1 32 :=
  shapeCast S2688x1x1 (select (cmpi .slt (broadcastInDim S2688x1 ![0] bcast_S2688_S2688x1_0 t) (broadcastInDim S2688x1 ![] bcast_S_S2688x1 (constantI S_ 32 0#32)))
    (addi (broadcastInDim S2688x1 ![0] bcast_S2688_S2688x1_0 t) (broadcastInDim S2688x1 ![] bcast_S_S2688x1 (constantI S_ 32 n)))
    (broadcastInDim S2688x1 ![0] bcast_S2688_S2688x1_0 t)) shapeCasts_S2688x1_S2688x1x1
def insideV (top : BitVec 32) (i : IVec S2688x1x1 32) : IVec S2688x1 1 :=
  Host.reduce IntOp.andi (andi (cmpi .sge i (broadcastInDim S2688x1x1 ![] bcast_S_S2688x1x1 (constantI S_ 32 0#32)))
    (cmpi .sle i (broadcastInDim S2688x1x1 ![0, 1, 2] bcast_S1x1x1_S2688x1x1_0_1_2 (broadcastInDim S1x1x1 ![2] bcast_S1_S1x1x1_2 (constantI S1 32 top)))))
    (constantI S_ 1 1#1) reducesTo_S2688x1x1_S2688x1_d2 h_S_

/-- The target's logit, and the mask's word it lies in. -/
def pickLogitV (l : FVec F S2688x32000 .f32) (t : IVec S2688 32) : FVec F S2688 .f32 :=
  shapeCast S2688 (select (insideV 31999#32 (wrapV 32000#32 t)) (Host.gather gather_S2688x32000_S2688x1x1_S2688x1_n_1_0_0_1_2_11 l (wrapV 32000#32 t))
    (broadcastInDim S2688x1 ![] bcast_S_S2688x1 (constant S_ .f32 0x7FC00000#32))) shapeCasts_S2688x1_S2688
def pickWordV (w : IVec S2688x1000 32) (t : IVec S2688 32) : IVec S2688 32 :=
  shapeCast S2688 (select (insideV 999#32 (wrapV 1000#32 t)) (Host.gather gather_S2688x1000_S2688x1x1_S2688x1_n_1_0_0_1_2_11 w (wrapV 1000#32 t))
    (broadcastInDim S2688x1 ![] bcast_S_S2688x1 (constantI S_ 32 2147483648#32))) shapeCasts_S2688x1_S2688

/-- A scalar word at every row. -/
def rowsV (n : BitVec 32) : IVec S2688 32 := broadcastInDim S2688 ![] bcast_S_S2688 (constantI S_ 32 n)

/-- The quotient of the targets by 32, rounded down, and the remainder, of the divisor's sign. -/
def quotV (t : IVec S2688 32) : IVec S2688 32 :=
  select (andi (cmpi .ne (signi t) (broadcastInDim S2688 ![] bcast_S_S2688 (signi (constantI S_ 32 32#32)))) (cmpi .ne (Host.remsi t (rowsV 32#32)) (rowsV 0#32)))
    (subi (Host.divsi t (rowsV 32#32)) (rowsV 1#32)) (Host.divsi t (rowsV 32#32))
def divisorV : IVec S_ 32 := select (cmpi .eq (constantI S_ 32 32#32) (constantI S_ 32 0#32)) (constantI S_ 32 1#32) (constantI S_ 32 32#32)
def rem0V (t : IVec S2688 32) : IVec S2688 32 := Host.remsi t (broadcastInDim S2688 ![] bcast_S_S2688 divisorV)
def remV (t : IVec S2688 32) : IVec S2688 32 :=
  select (andi (cmpi .ne (cmpi .slt (rem0V t) (rowsV 0#32)) (broadcastInDim S2688 ![] bcast_S_S2688 (cmpi .slt divisorV (constantI S_ 32 0#32)))) (cmpi .ne (rem0V t) (rowsV 0#32)))
    (addi (rem0V t) (broadcastInDim S2688 ![] bcast_S_S2688 divisorV)) (rem0V t)

/-- The log-probability of the target, zero where the mask does not let it through. -/
def tlpV (w : IVec S2688x1000 32) (t : IVec S2688 32) (tl lse : FVec F S2688 .f32) : FVec F S2688 .f32 :=
  select (andi (cmpi .eq (andi (Host.shrsi (pickWordV w (quotV t)) (remV t)) (rowsV 1#32)) (rowsV 1#32))
      (cmpf .ogt tl (broadcastInDim S2688 ![] bcast_S_S2688 (constant S_ .f32 0xFF800000#32))))
    (subf tl lse) (broadcastInDim S2688 ![] bcast_S_S2688 (constant S_ .f32 0x00000000#32))

/-- The blocks, and the three results, from the product and the arguments. -/
def rowBlocksV (p : FVec F S2688x32000 .f32) (s : FVec F S2688x1 .f32) (ws : FVec F S32000 .f32) (mask : IVec S448x6x1000 32) : FVec F S2688x63x512 .f32 :=
  blocksV (maskedV (allowedV (wordsV mask)) (logitsV p s ws))
def out0 (p : FVec F S2688x32000 .f32) (s : FVec F S2688x1 .f32) (ws : FVec F S32000 .f32) (mask : IVec S448x6x1000 32) : FVec F S1x2688 .f32 :=
  shapeCast S1x2688 (lseV (blseV (rowBlocksV p s ws mask))) shapeCasts_S2688_S1x2688
def out1 (p : FVec F S2688x32000 .f32) (s : FVec F S2688x1 .f32) (ws : FVec F S32000 .f32) (mask : IVec S448x6x1000 32) (tgt : IVec S448x6 32) : FVec F S1x2688 .f32 :=
  shapeCast S1x2688 (tlpV (wordsV mask) (tgtV tgt) (pickLogitV (logitsV p s ws) (tgtV tgt)) (lseV (blseV (rowBlocksV p s ws mask)))) shapeCasts_S2688_S1x2688
def out2 (p : FVec F S2688x32000 .f32) (s : FVec F S2688x1 .f32) (ws : FVec F S32000 .f32) (mask : IVec S448x6x1000 32) : FVec F S63x2688 .f32 :=
  transpose S63x2688 [1, 0] (orZeroV (andi (aboveV (maxV (rowBlocksV p s ws mask))) (aboveV (blseV (rowBlocksV p s ws mask)))) (blseV (rowBlocksV p s ws mask))) transposes_S2688x63_S63x2688_1_0

/-- The host operations after the product, in order. -/
abbrev tailOps : List (List (HloOp τ sig (Elt F))) :=
  [hostOps1, hostOps1_1, hostOps1_2, hostOps1_3, hostOps1_4, hostOps1_5, hostOps1_6, hostOps1_7, hostOps1_8, hostOps1_9, hostOps1_10, hostOps1_11, hostOps1_12, hostOps1_13, hostOps1_14, hostOps1_15, hostOps1_16, hostOps1_17, hostOps1_18]

variable (W : Valuation τ sig (Elt F))

theorem tail_lse : (StableHlo.after tailOps.flatten W (Proc.devRef .tc main_v66) : FVec F S1x2688 .f32)
    = out0 (W (Proc.devRef .tc main_v0)) (W (Proc.devRef .tc main_arg1)) (W (Proc.devRef .tc main_arg3)) (W (Proc.devRef .tc main_arg4)) := by
  simp only [tailOps, hostOps1, hostOps1_1, hostOps1_2, hostOps1_3, hostOps1_4, hostOps1_5, hostOps1_6, hostOps1_7, hostOps1_8, hostOps1_9, hostOps1_10, hostOps1_11, hostOps1_12, hostOps1_13, hostOps1_14, hostOps1_15, hostOps1_16, hostOps1_17, hostOps1_18,
    List.flatten_cons, List.flatten_nil, List.append_nil, List.cons_append, List.nil_append]
  after_reads_simp
  simp -implicitDefEqProofs only [StableHlo.TRef.toBuf, StableHlo.TRef.ofBuf, cast_cast, cast_eq]
  rfl

theorem tail_tlp : (StableHlo.after tailOps.flatten W (Proc.devRef .tc main_v67) : FVec F S1x2688 .f32)
    = out1 (W (Proc.devRef .tc main_v0)) (W (Proc.devRef .tc main_arg1)) (W (Proc.devRef .tc main_arg3)) (W (Proc.devRef .tc main_arg4)) (W (Proc.devRef .tc main_arg5)) := by
  simp only [tailOps, hostOps1, hostOps1_1, hostOps1_2, hostOps1_3, hostOps1_4, hostOps1_5, hostOps1_6, hostOps1_7, hostOps1_8, hostOps1_9, hostOps1_10, hostOps1_11, hostOps1_12, hostOps1_13, hostOps1_14, hostOps1_15, hostOps1_16, hostOps1_17, hostOps1_18,
    List.flatten_cons, List.flatten_nil, List.append_nil, List.cons_append, List.nil_append]
  after_reads_simp
  simp -implicitDefEqProofs only [StableHlo.TRef.toBuf, StableHlo.TRef.ofBuf, cast_cast, cast_eq]
  rfl

theorem tail_blk : (StableHlo.after tailOps.flatten W (Proc.devRef .tc main_v68) : FVec F S63x2688 .f32)
    = out2 (W (Proc.devRef .tc main_v0)) (W (Proc.devRef .tc main_arg1)) (W (Proc.devRef .tc main_arg3)) (W (Proc.devRef .tc main_arg4)) := by
  simp only [tailOps, hostOps1, hostOps1_1, hostOps1_2, hostOps1_3, hostOps1_4, hostOps1_5, hostOps1_6, hostOps1_7, hostOps1_8, hostOps1_9, hostOps1_10, hostOps1_11, hostOps1_12, hostOps1_13, hostOps1_14, hostOps1_15, hostOps1_16, hostOps1_17, hostOps1_18,
    List.flatten_cons, List.flatten_nil, List.append_nil, List.cons_append, List.nil_append]
  after_reads_simp
  simp -implicitDefEqProofs only [StableHlo.TRef.toBuf, StableHlo.TRef.ofBuf, cast_cast, cast_eq]
  rfl

variable (m : (ℓ : Loc nD τ sig) → Buf (Elt F) ℓ) (ρ : Dev nD → PrngReg)

/-- Every window is its whole array. -/
theorem idx : ∀ t : Fin cfg0.N, win0_0.index t = ![0, 0] ∧ win0_1.index t = ![0, 0] ∧ win0_2.index t = ![0, 0] :=
  (by decide +kernel : ∀ t : Fin grid0.N, _)

theorem iblk0 (c : Dev nD) : (iblk m c 0 t0_0 : FVec F S2688x8192 .fp8e4m3) = m ((c : Thread nD τ).loc main_arg0) := by
  blk_ext! [iblk, V, idx t0_0]
theorem iblk1 (c : Dev nD) : (iblk m c 1 t0_0 : FVec F S32000x8192 .fp8e4m3) = m ((c : Thread nD τ).loc main_arg2) := by
  blk_ext! [iblk, V, idx t0_0]

/-- The product, as the region leaves it. -/
theorem prod_eq (c : Dev nD) : ((dats m 0 c).arrAt 2 (cfgs 0).N : FVec F S2688x32000 .f32)
    = k0_pay1 (F := F) (m ((c : Thread nD τ).loc main_arg0)) (m ((c : Thread nD τ).loc main_arg2)) := by
  refine (dats m 0 c).arrAt_eq_of_after_last 2 t0_0 (by decide +kernel) _ fun j => ?_
  blk_simp
  rw [after0_2]
  frame_out
  rw [iblk0, iblk1]

/-- What each buffer holds after the host operations, at the region's exit. -/
abbrev exitV (c : Dev nD) : Valuation τ sig (Elt F) := Pipeline.withArrays (cfgs 0).spec c (V0 m c) fun w => (dats m 0 c).arrAt w (cfgs 0).N

theorem exit_prod (c : Dev nD) : (exitV m c (Proc.devRef .tc main_v0) : FVec F S2688x32000 .f32)
    = k0_pay1 (F := F) (m ((c : Thread nD τ).loc main_arg0)) (m ((c : Thread nD τ).loc main_arg2)) :=
  (Pipeline.withArrays_arr spec0 (by decide) c (V0 m c) (fun w => (dats m 0 c).arrAt w (cfgs 0).N) 2).trans (prod_eq m c)

theorem exit_arg (c : Dev nD) (b : Ref sig .tc) (hb : ∀ w, Pipeline.arrRef spec0 w ≠ b) : exitV m c (Proc.devRef .tc b) = m ((c : Thread nD τ).loc b) :=
  Pipeline.withArrays_of_ne spec0 c (V0 m c) (fun w => (dats m 0 c).arrAt w (cfgs 0).N) b hb

/-- The reference's run: its results, and its arguments as at the launch. -/
theorem run_results : θ_run defs (onTc (τ := τ) (main (F := F))) ⟨m, fun _ => 0, ρ⟩ (fun r => ∀ c : Dev nD,
      (r.2.mem ((c.tc : Thread nD τ).loc main_v66) : FVec F S1x2688 .f32) = out0 (k0_pay1 (F := F) (m ((c : Thread nD τ).loc main_arg0)) (m ((c : Thread nD τ).loc main_arg2)))
        (m ((c : Thread nD τ).loc main_arg1)) (m ((c : Thread nD τ).loc main_arg3)) (m ((c : Thread nD τ).loc main_arg4))
      ∧ (r.2.mem ((c.tc : Thread nD τ).loc main_v67) : FVec F S1x2688 .f32) = out1 (k0_pay1 (F := F) (m ((c : Thread nD τ).loc main_arg0)) (m ((c : Thread nD τ).loc main_arg2)))
        (m ((c : Thread nD τ).loc main_arg1)) (m ((c : Thread nD τ).loc main_arg3)) (m ((c : Thread nD τ).loc main_arg4)) (m ((c : Thread nD τ).loc main_arg5))
      ∧ (r.2.mem ((c.tc : Thread nD τ).loc main_v68) : FVec F S63x2688 .f32) = out2 (k0_pay1 (F := F) (m ((c : Thread nD τ).loc main_arg0)) (m ((c : Thread nD τ).loc main_arg2)))
        (m ((c : Thread nD τ).loc main_arg1)) (m ((c : Thread nD τ).loc main_arg3)) (m ((c : Thread nD τ).loc main_arg4))) := by
  refine (θ_run defs _ _).mono (fun r h c => ?_) (run_main m ρ)
  have e1 := exit_arg m c main_arg1 (by decide)
  have e3 := exit_arg m c main_arg3 (by decide)
  have e4 := exit_arg m c main_arg4 (by decide)
  have e5 := exit_arg m c main_arg5 (by decide)
  have ep := exit_prod m c
  refine ⟨((h c).2 main_v66 (Pipeline.mem_restRefs_of main_v66 (by decide) (by decide))).trans ?_,
    ((h c).2 main_v67 (Pipeline.mem_restRefs_of main_v67 (by decide) (by decide))).trans ?_,
    ((h c).2 main_v68 (Pipeline.mem_restRefs_of main_v68 (by decide) (by decide))).trans ?_⟩
  · exact (tail_lse (exitV m c)).trans (by rw [e1, e3, e4, ep])
  · exact (tail_tlp (exitV m c)).trans (by rw [e1, e3, e4, e5, ep])
  · exact (tail_blk (exitV m c)).trans (by rw [e1, e3, e4, ep])

end Cert.ReferenceIdeal.Hand

end
-- ==== Proof.Hand.RefValue.lean ====
/- What the reference computes: each result array is the one the mathematics names. -/
module

public import proofs.«01_k».proof.Proof.Hand.RefRun
public import proofs.«01_k».proof.Proof.Hand.Legal
public import proofs.«01_k».proof.Proof.Hand.Spec
public import Idealize.ShloMosaic.Lib.Routing.Words
public import Idealize.ShloMosaic.Lib.ValueIdxCore

@[expose] public section

set_option maxRecDepth 16384

noncomputable section

namespace Cert.ReferenceIdeal.Hand

open Idealize.ShloMosaic Idealize.ShloMosaic.TcCoe Idealize.SL.Sem
open Cert.ReferenceIdeal.Gen
open Cert.Head
open Idealize.ShloMosaic.Routing (remsi_word divsi_word)

variable (x : FVec Ideal S2688x8192 .fp8e4m3) (s : FVec Ideal S2688x1 .f32) (w : FVec Ideal S32000x8192 .fp8e4m3) (ws : FVec Ideal S32000 .f32)
  (mask : IVec S448x6x1000 32) (tgt : IVec S448x6 32)

theorem prod_apply (r : Fin 2688) (v : Fin 32000) : k0_pay1 (F := Ideal) x w (ix2 r v) = ∑ d : Fin 8192, x (ix2 r d) * w (ix2 v d) := by
  pointwise [k0_pay1]

theorem logitsV_apply (r : Fin 2688) (v : Fin 32000) : logitsV (k0_pay1 (F := Ideal) x w) s ws (ix2 r v) = logit x s w ws r v := by
  unfold logit
  rw [← prod_apply]
  pointwise [logitsV]

theorem wordsV_apply (r : Fin 2688) (k : Fin 1000) : wordsV mask (ix2 r k) = maskWord mask r k := by
  pointwise [wordsV]
  rfl

theorem tgtV_apply (r : Fin 2688) : tgtV tgt (ix1 r) = tgtOf tgt r := by
  pointwise [tgtV]
  rfl

theorem andi_one_ne_zero (a : BitVec 32) : IntOp.andi a 1#32 ≠ 0#32 ↔ IntOp.andi a 1#32 = 1#32 := by
  show a &&& 1#32 ≠ 0#32 ↔ a &&& 1#32 = 1#32
  rw [BitVec.and_one_eq_setWidth_ofBool_getLsbD]
  cases a.getLsbD 0 <;> decide

theorem allowedV_apply (r : Fin 2688) (v : Fin 32000) : allowedV (wordsV mask) (ix2 r v) = 1#1 ↔ legalTok mask r v := by
  have h := fun k => wordsV_apply mask r k
  generalize wordsV mask = words at h
  pointwise [allowedV, bitsV]
  rw [ne_of_cmpi, andi_one_ne_zero, bitSet_of .host _ _ _ (Nat.mod_lt _ (by decide)) rfl, h]
  rfl

theorem maskedV_apply (r : Fin 2688) (v : Fin 32000) (a : IVec S2688x32000 1) (l : FVec Ideal S2688x32000 .f32) : maskedV a l (ix2 r v) = if a (ix2 r v) = 1#1 then l (ix2 r v) else ⊥ := by
  pointwise [maskedV]
  rw [ofBits_negInf]
  rfl

theorem blocksV_apply (y : FVec Ideal S2688x32000 .f32) (r : Fin 2688) (j : Fin 63) (n : Fin 512) :
    blocksV y (ix3 r j n) = if h : 512 * j.val + n.val < 32000 then y (ix2 r ⟨512 * j.val + n.val, h⟩) else ⊥ := by
  pointwise [blocksV]
  rw [ofBits_negInf]
  have e : j.val * 512 + n.val = 512 * j.val + n.val := by omega
  simp only [e]

theorem maxV_apply (y : FVec Ideal S2688x63x512 .f32) (r : Fin 2688) (j : Fin 63) : maxV y (ix2 r j) = Finset.univ.sup fun n => y (ix3 r j n) := by
  pointwise [maxV]
  exact fold_max _ _

theorem aboveV_apply (y : FVec Ideal S2688x63 .f32) (r : Fin 2688) (j : Fin 63) : aboveV y (ix2 r j) = 1#1 ↔ ⊥ < y (ix2 r j) := by
  pointwise [aboveV]
  rw [ofBits_negInf, ofBool_one, decide_eq_true_eq]

theorem orZeroV_apply (h : IVec S2688x63 1) (y : FVec Ideal S2688x63 .f32) (r : Fin 2688) (j : Fin 63) : orZeroV h y (ix2 r j) = if h (ix2 r j) = 1#1 then y (ix2 r j) else 0 := by
  pointwise [orZeroV]
  rfl

theorem blseOf_apply (f : FVec Ideal S2688x63 .f32) (y : FVec Ideal S2688x63x512 .f32) (r : Fin 2688) (j : Fin 63) :
    blseOf f y (ix2 r j) = f (ix2 r j) + Ideal.log (∑ n, Ideal.exp (y (ix3 r j n) - f (ix2 r j))) := by
  pointwise [blseOf]

theorem rowMaxV_apply (b : FVec Ideal S2688x63 .f32) (r : Fin 2688) : rowMaxV b (ix1 r) = Finset.univ.sup fun j => b (ix2 r j) := by
  pointwise [rowMaxV]
  exact fold_max _ _

theorem lseV_apply (b : FVec Ideal S2688x63 .f32) (r : Fin 2688) : lseV b (ix1 r) = totalLse fun j => b (ix2 r j) := by
  unfold totalLse
  rw [← rowMaxV_apply]
  unfold lseV
  generalize rowMaxV b = q
  pointwise []

/-! Words of naturals below 32000. -/

theorem slt_zero (n : ℕ) (h : n < 32000) : IntOp.cmpi .slt (BitVec.ofNat 32 n) 0#32 = 0#1 := by
  have e : (BitVec.ofNat 32 n).slt 0#32 = false := by
    rw [BitVec.slt_eq_decide, decide_eq_false_iff_not, BitVec.toInt_eq_toNat_cond, BitVec.toNat_ofNat]
    have e0 : (0#32).toInt = 0 := rfl
    rw [e0]
    split <;> omega
  show BitVec.ofBool ((BitVec.ofNat 32 n).slt 0#32) = 0#1
  rw [e]
  rfl

theorem sge_zero (n : ℕ) (h : n < 32000) : IntOp.cmpi .sge (BitVec.ofNat 32 n) 0#32 = 1#1 := by
  refine (ofBool_one _).2 ?_
  show (0#32).sle (BitVec.ofNat 32 n) = true
  rw [BitVec.sle_eq_decide, decide_eq_true_eq, BitVec.toInt_eq_toNat_cond, BitVec.toInt_eq_toNat_cond, BitVec.toNat_ofNat, BitVec.toNat_ofNat]
  split <;> split <;> omega

theorem sle_top (n k : ℕ) (hk : k < 32000) (h : n ≤ k) : IntOp.cmpi .sle (BitVec.ofNat 32 n) (BitVec.ofNat 32 k) = 1#1 := by
  refine (ofBool_one _).2 ?_
  show (BitVec.ofNat 32 n).sle (BitVec.ofNat 32 k) = true
  rw [BitVec.sle_eq_decide, decide_eq_true_eq, BitVec.toInt_eq_toNat_cond, BitVec.toInt_eq_toNat_cond, BitVec.toNat_ofNat, BitVec.toNat_ofNat]
  split <;> split <;> omega

theorem quotV_apply (t : IVec S2688 32) (r : Fin 2688) (n : ℕ) (h : n < 32000) (e : t (ix1 r) = BitVec.ofNat 32 n) : quotV t (ix1 r) = BitVec.ofNat 32 (n / 32) := by
  pointwise [quotV, rowsV]
  rw [e, remsi_word .host (by omega) (by decide : 0 < 32) (by decide), divsi_word .host (by omega) (by decide : 0 < 32) (by decide)]
  rcases Nat.eq_zero_or_pos n with rfl | hn
  · rfl
  · have h0 : BitVec.ofNat 32 n ≠ 0 := fun hz => by
      have := congrArg BitVec.toNat hz
      rw [BitVec.toNat_ofNat] at this
      have z : (0 : BitVec 32).toNat = 0 := rfl
      omega
    have hm : ¬ (BitVec.ofNat 32 n).msb = true := by
      rw [BitVec.msb_eq_decide, decide_eq_true_eq, BitVec.toNat_ofNat]
      omega
    rw [if_neg h0, if_neg hm]
    have a : ∀ (b : BitVec 1) (y z : BitVec 32), Scalar.select (IntOp.andi 0#1 b) y z = z := fun b y z => if_neg (by revert b; decide)
    exact a _ _ _

theorem remV_apply (t : IVec S2688 32) (r : Fin 2688) (n : ℕ) (h : n < 32000) (e : t (ix1 r) = BitVec.ofNat 32 n) : remV t (ix1 r) = BitVec.ofNat 32 (n % 32) := by
  pointwise [remV, rowsV, rem0V, divisorV]
  have d : Scalar.select (IntOp.cmpi .eq 32#32 0#32) 1#32 32#32 = 32#32 := by decide
  rw [d, e, remsi_word .host (by omega) (by decide : 0 < 32) (by decide), slt_zero (n % 32) (by omega), slt_zero 32 (by decide)]
  have a : ∀ b : BitVec 1, IntOp.andi (IntOp.cmpi .ne 0#1 0#1) b = 0#1 := by decide
  rw [a]
  rfl

theorem wrapV_apply (k : BitVec 32) (t : IVec S2688 32) (r : Fin 2688) (n : ℕ) (h : n < 32000) (e : t (ix1 r) = BitVec.ofNat 32 n) : wrapV k t (ix3 r 0 0) = BitVec.ofNat 32 n := by
  pointwise [wrapV]
  rw [e, slt_zero n h]
  rfl

/-- Indices all in range are found to be. -/
theorem insideV_apply (i : IVec S2688x1x1 32) (k : ℕ) (hk : k < 32000) (hi : ∀ r, ∃ n, n ≤ k ∧ i (ix3 r 0 0) = BitVec.ofNat 32 n) (j : S2688x1.Idx) :
    insideV (BitVec.ofNat 32 k) i j = 1#1 := by
  refine Host.reduce_andi_one _ _ _ _ j rfl fun q => ?_
  obtain ⟨r, rfl⟩ : ∃ r : Fin 2688, q = ix3 r 0 0 := ⟨q 0, by
    funext b
    fin_cases b
    · rfl
    · exact Subsingleton.elim (α := Fin 1) _ _
    · exact Subsingleton.elim (α := Fin 1) _ _⟩
  obtain ⟨n, hn, e⟩ := hi r
  refine IntOp.andi_eq_one.2 ⟨?_, ?_⟩
  · show IntOp.cmpi .sge (i (ix3 r 0 0)) 0#32 = 1#1
    rw [e]
    exact sge_zero n (by omega)
  · show IntOp.cmpi .sle (i (ix3 r 0 0)) (BitVec.ofNat 32 k) = 1#1
    rw [e]
    exact sle_top n k hk hn

section Gather
variable {α : Type} {N C : ℕ}

/-- The dimension numbers of a gather of one column a row. -/
abbrev colDims (wf : GatherDims.WF ⟨2, ![N, C]⟩ ⟨3, ![N, 1, 1]⟩ ⟨2, ![N, 1]⟩ [] [1] [0] [1] [0] 2 ![1, 1]) :
    GatherDims ⟨2, ![N, C]⟩ ⟨3, ![N, 1, 1]⟩ ⟨2, ![N, 1]⟩ where
  offsetDims := []
  collapsedSliceDims := [1]
  operandBatchingDims := [0]
  startIndicesBatchingDims := [0]
  startIndexMap := [1]
  indexVectorDim := 2
  sliceSizes := ![1, 1]
  wf := wf

/-- Such a gather at a row whose index is in range. -/
theorem gather_col (wf : GatherDims.WF ⟨2, ![N, C]⟩ ⟨3, ![N, 1, 1]⟩ ⟨2, ![N, 1]⟩ [] [1] [0] [1] [0] 2 ![1, 1]) (x : (⟨2, ![N, C]⟩ : Shape).Idx → α)
    (i : IVec ⟨3, ![N, 1, 1]⟩ 32) (r : Fin N) (n : Fin C) (hn : n.val < 32000) (e : i (ix3 r 0 0) = BitVec.ofNat 32 n.val) :
    Host.gather (colDims wf) x i (ix2 r 0) = x (ix2 r n) := by
  unfold Host.gather
  congr 1
  funext a
  refine Fin.ext ?_
  show (colDims wf).start (ix2 r 0) i a + (colDims wf).batchCoord (ix2 r 0) a + (colDims wf).offCoord (ix2 r 0) a = _
  have h01 : a = 0 ∨ a = 1 := by
    match a with
    | ⟨0, _⟩ => exact Or.inl rfl
    | ⟨1, _⟩ => exact Or.inr rfl
  rcases h01 with rfl | rfl
  · rw [GatherDims.start_batching _ _ _ _ (List.mem_singleton.mpr rfl),
      GatherDims.offCoord_eq_zero _ _ _ (fun h => ((GatherDims.mem_sKept _ _).mp h).2 (List.mem_singleton.mpr rfl))]
    simp only [Nat.zero_add, Nat.add_zero]
    unfold GatherDims.batchCoord
    rw [dif_pos (List.mem_singleton.mpr rfl)]
    rfl
  · rw [GatherDims.batchCoord_eq_zero _ _ _ (fun h => by simp at h),
      GatherDims.offCoord_eq_zero _ _ _ (fun h => ((GatherDims.mem_sKept _ _).mp h).1 (List.mem_singleton.mpr rfl))]
    simp only [Nat.add_zero]
    unfold GatherDims.start
    rw [dif_pos (show (1 : Fin 2) ∈ (colDims wf).startIndexMap from List.mem_singleton.mpr rfl)]
    have hsi : (colDims wf).siIdx (ix2 r 0) ⟨List.idxOf (1 : Fin 2) (colDims wf).startIndexMap,
        List.idxOf_lt_length_iff.2 (List.mem_singleton.mpr rfl)⟩ = ix3 r 0 0 := by
      funext b; refine Fin.ext ?_
      match b with
      | ⟨0, _⟩ => rfl
      | ⟨1, _⟩ => rfl
      | ⟨2, _⟩ => rfl
    rw [hsi, e]
    show min (BitVec.ofNat 32 n.val).toInt.toNat (C - 1) = n.val
    have h := n.isLt
    have en : (BitVec.ofNat 32 n.val).toInt = n.val := by
      rw [BitVec.toInt_eq_toNat_cond, BitVec.toNat_ofNat]
      split <;> omega
    rw [en, Int.toNat_natCast]
    omega

end Gather

/-- The target's logit, and its word of the mask, for targets in range. -/
theorem pickLogitV_apply (l : FVec Ideal S2688x32000 .f32) (t : IVec S2688 32) (n : Fin 2688 → Fin 32000) (h : ∀ r, t (ix1 r) = BitVec.ofNat 32 (n r).val) (r : Fin 2688) :
    pickLogitV l t (ix1 r) = l (ix2 r (n r)) := by
  have hi := fun r => wrapV_apply 32000#32 t r (n r).val (n r).isLt (h r)
  unfold pickLogitV
  generalize wrapV 32000#32 t = i at hi ⊢
  have hin := insideV_apply i 31999 (by decide) (fun r => ⟨(n r).val, by have := (n r).isLt; omega, hi r⟩) (ix2 r 0)
  have hg : Host.gather gather_S2688x32000_S2688x1x1_S2688x1_n_1_0_0_1_2_11 l i (ix2 r 0) = l (ix2 r (n r)) := gather_col gather_S2688x32000_S2688x1x1_S2688x1_n_1_0_0_1_2_11.wf l i r (n r) (n r).isLt (hi r)
  generalize insideV 31999#32 i = a at hin ⊢
  generalize Host.gather gather_S2688x32000_S2688x1x1_S2688x1_n_1_0_0_1_2_11 l i = g at hg ⊢
  pointwise []
  rw [hin]
  exact hg

theorem pickWordV_apply (w : IVec S2688x1000 32) (t : IVec S2688 32) (n : Fin 2688 → Fin 1000) (h : ∀ r, t (ix1 r) = BitVec.ofNat 32 (n r).val) (r : Fin 2688) :
    pickWordV w t (ix1 r) = w (ix2 r (n r)) := by
  have hi := fun r => wrapV_apply 1000#32 t r (n r).val (by have := (n r).isLt; omega) (h r)
  unfold pickWordV
  generalize wrapV 1000#32 t = i at hi ⊢
  have hin := insideV_apply i 999 (by decide) (fun r => ⟨(n r).val, by have := (n r).isLt; omega, hi r⟩) (ix2 r 0)
  have hg : Host.gather gather_S2688x1000_S2688x1x1_S2688x1_n_1_0_0_1_2_11 w i (ix2 r 0) = w (ix2 r (n r)) := gather_col gather_S2688x1000_S2688x1x1_S2688x1_n_1_0_0_1_2_11.wf w i r (n r) (by have := (n r).isLt; omega) (hi r)
  generalize insideV 999#32 i = a at hin ⊢
  generalize Host.gather gather_S2688x1000_S2688x1x1_S2688x1_n_1_0_0_1_2_11 w i = g at hg ⊢
  pointwise []
  rw [hin]
  exact hg

theorem rowBlocksV_apply (r : Fin 2688) (j : Fin 63) (n : Fin 512) : rowBlocksV (k0_pay1 (F := Ideal) x w) s ws mask (ix3 r j n) = blocks x s w ws mask r j n := by
  unfold rowBlocksV blocks
  rw [blocksV_apply]
  split
  · rw [maskedV_apply, logitsV_apply, masked]
    have e := allowedV_apply mask r ⟨512 * j.val + n.val, by assumption⟩
    by_cases h : legalTok mask r ⟨512 * j.val + n.val, by assumption⟩
    · rw [if_pos h, if_pos (e.2 h)]
    · rw [if_neg h, if_neg fun h' => h (e.1 h')]
  · rfl

theorem blseV_apply (y : FVec Ideal S2688x63x512 .f32) (r : Fin 2688) (j : Fin 63) : blseV y (ix2 r j) = blockLse fun n => y (ix3 r j n) := by
  unfold blseV blockLse shift
  rw [blseOf_apply, orZeroV_apply, maxV_apply]
  have e := aboveV_apply (maxV y) r j
  rw [maxV_apply] at e
  simp only [e]

theorem blse_apply (r : Fin 2688) (j : Fin 63) : blseV (rowBlocksV (k0_pay1 (F := Ideal) x w) s ws mask) (ix2 r j) = blockLse (blocks x s w ws mask r j) :=
  (blseV_apply _ r j).trans (congrArg blockLse (funext fun n => rowBlocksV_apply x s w ws mask r j n))

theorem lse_apply (r : Fin 2688) : lseV (blseV (rowBlocksV (k0_pay1 (F := Ideal) x w) s ws mask)) (ix1 r) = lseOf x s w ws mask r :=
  (lseV_apply _ r).trans (congrArg totalLse (funext fun j => blse_apply x s w ws mask r j))

/-- The reference's three results are the head's. -/
theorem out0_apply (r : Fin 2688) : out0 (k0_pay1 (F := Ideal) x w) s ws mask (ix2 0 r) = lseOf x s w ws mask r := by
  rw [← lse_apply]
  unfold out0
  generalize lseV (F := Ideal) _ = q
  pointwise []

theorem out2_apply (j : Fin 63) (r : Fin 2688) : out2 (k0_pay1 (F := Ideal) x w) s ws mask (ix2 j r) = blkOf x s w ws mask r j := by
  have e : out2 (k0_pay1 (F := Ideal) x w) s ws mask (ix2 j r) = orZeroV (andi (aboveV (maxV (rowBlocksV (k0_pay1 (F := Ideal) x w) s ws mask)))
      (aboveV (blseV (rowBlocksV (k0_pay1 (F := Ideal) x w) s ws mask)))) (blseV (rowBlocksV (k0_pay1 (F := Ideal) x w) s ws mask)) (ix2 r j) := by
    unfold out2
    generalize orZeroV (F := Ideal) _ _ = q
    pointwise []
  rw [e, orZeroV_apply, blse_apply, blkOf]
  refine if_congr ?_ rfl rfl
  refine (IntOp.andi_eq_one).trans ?_
  rw [aboveV_apply, aboveV_apply, blse_apply, maxV_apply]
  simp only [rowBlocksV_apply]
  refine ⟨fun h => h.2, fun h => ⟨?_, h⟩⟩
  by_contra hn
  have hb := not_bot_lt_iff.1 hn
  refine (ne_of_gt h) (blockLse_bot _ fun n => ?_)
  exact le_bot_iff.1 (hb ▸ Finset.le_sup (f := fun n => blocks x s w ws mask r j n) (Finset.mem_univ n))

theorem out1_apply (hin : ∀ i, (tgt i).toNat < 32000) (r : Fin 2688) : out1 (k0_pay1 (F := Ideal) x w) s ws mask tgt (ix2 0 r) = tlpOf x s w ws mask tgt r := by
  obtain ⟨N, hN⟩ : ∃ N : Fin 2688 → Fin 32000, ∀ r, (N r).val = (tgtOf tgt r).toNat := ⟨fun r => ⟨(tgtOf tgt r).toNat, hin _⟩, fun _ => rfl⟩
  have ht : ∀ r, tgtV tgt (ix1 r) = BitVec.ofNat 32 (N r).val := fun r => by rw [tgtV_apply, hN, BitVec.ofNat_toNat, BitVec.setWidth_eq]
  have hq := pickWordV_apply (wordsV mask) (quotV (tgtV tgt)) (fun r => ⟨(N r).val / 32, by have := (N r).isLt; omega⟩) (fun r => quotV_apply _ r _ (N r).isLt (ht r)) r
  rw [wordsV_apply] at hq
  have hr := remV_apply (tgtV tgt) r _ (N r).isLt (ht r)
  have hl := pickLogitV_apply (logitsV (k0_pay1 (F := Ideal) x w) s ws) (tgtV tgt) N ht r
  rw [logitsV_apply] at hl
  have he := lse_apply x s w ws mask r
  have hT : tgtLogit x s w ws mask tgt r = masked x s w ws mask r (N r) := by
    unfold tgtLogit
    rw [dif_pos (show (tgtOf tgt r).toNat < 32000 from hin _)]
    exact congrArg _ (Fin.ext (hN r).symm)
  unfold out1 tlpV
  generalize pickWordV (wordsV mask) (quotV (tgtV tgt)) = W at hq ⊢
  generalize remV (tgtV tgt) = R at hr ⊢
  generalize pickLogitV (logitsV (k0_pay1 (F := Ideal) x w) s ws) (tgtV tgt) = L at hl ⊢
  generalize lseV (blseV (rowBlocksV (k0_pay1 (F := Ideal) x w) s ws mask)) = E at he ⊢
  pointwise [rowsV]
  rw [hq, hr, hl, he, ofBits_negInf, tlpOf, hT, masked]
  have hb := bitSet_of .host (maskWord mask r ⟨(N r).val / 32, by have := (N r).isLt; omega⟩) _ ((N r).val % 32) (Nat.mod_lt _ (by decide)) rfl
  by_cases h : legalTok mask r (N r)
  · rw [if_pos h, eq_of_cmpi.2 (hb.2 h)]
    by_cases hp : ⊥ < logit x s w ws r (N r)
    · rw [if_pos hp, decide_eq_true hp]
      rfl
    · rw [if_neg hp, decide_eq_false hp]
      rfl
  · rw [if_neg h, if_neg (lt_irrefl _)]
    have z := (bit_cases _).resolve_right fun h' => h (hb.1 (eq_of_cmpi.1 h'))
    rw [z]
    have a : ∀ b : BitVec 1, IntOp.andi 0#1 b = 0#1 := by decide
    rw [a]
    rfl

end Cert.ReferenceIdeal.Hand

end
-- ==== Proof.Hand.Printed.lean ====
/- The printed kernel is the idealised one's text, word for word, so its frame is the idealised kernel's at the machine's floats. -/
module

public import proofs.«01_k».proof.Defs
public import proofs.«01_k».proof.Proof.Hand.Final
public import proofs.«01_k».proof.Proof.Gen.Kernel

@[expose] public section

set_option maxRecDepth 16384
set_option maxHeartbeats 0

namespace Cert.Kernel.Hand

open Idealize.ShloMosaic Idealize.SL.Sem

variable {F : FTy → Type} [FloatOps F]

/-- The body, the table of bodies, the region's table and the host program are the same in both texts. -/
theorem head_eq : @Cert.Kernel.cc0_head F _ _ = @Cert.KernelIdeal.cc0_head F _ _ := rfl

theorem bodies_eq : Cert.Kernel.defs₀ (F := F) = Cert.KernelIdeal.defs₀ (F := F) := by
  unfold Cert.Kernel.defs₀ Cert.KernelIdeal.defs₀
  refine congrArg Defs.onTc (funext fun l => funext fun a => ?_)
  match l with
  | ⟨0, _⟩ => rfl
  | ⟨n + 1, h⟩ => exact absurd h (by omega)

theorem defs_eq : Cert.Kernel.defs (F := F) = Cert.KernelIdeal.defs (F := F) := congrArg (Pipeline.defs Cert.Kernel.pcfgs) bodies_eq

theorem main_eq : Cert.Kernel.main (F := F) = Cert.KernelIdeal.main (F := F) := rfl

/-- Every execution of the printed kernel ends with the arguments unchanged and every counter at zero. -/
theorem frame : Cert.quiescent_Kernel (hKernel := Cert.Kernel.Gen.facts) := by
  intro m g _
  have h := Cert.KernelIdeal.Hand.frame (F := Bits) m g
  rw [← defs_eq, ← main_eq] at h
  exact h

end Cert.Kernel.Hand
-- ==== Proof.lean ====
module

public import proofs.«01_k».proof.Defs
public import proofs.«01_k».proof.Proof.Hand.Final
public import proofs.«01_k».proof.Proof.Hand.KernelValue
public import proofs.«01_k».proof.Proof.Hand.RefValue
public import proofs.«01_k».proof.Proof.Hand.Printed
public import proofs.«01_k».proof.Proof.Gen.ReferenceIdeal
public import proofs.«01_k».proof.Proof.Gen.ReferenceIdeal.Frame

@[expose] public section

set_option maxRecDepth 16384

noncomputable section

namespace Cert.Proof

open Idealize.ShloMosaic Idealize.SL.Sem Idealize.ShloMosaic.TcCoe

/-- An index of an array of one row; of two axes. -/
theorem row_index (n : ℕ) (i : (⟨2, ![1, n]⟩ : Shape).Idx) : ∃ r : Fin n, i = ix2 0 r :=
  ⟨i 1, by
    funext b
    fin_cases b
    · exact Subsingleton.elim (α := Fin 1) _ _
    · rfl⟩
theorem pair_index (k n : ℕ) (i : (⟨2, ![k, n]⟩ : Shape).Idx) : ∃ (j : Fin k) (r : Fin n), i = ix2 j r :=
  ⟨i 0, i 1, by funext b; fin_cases b <;> rfl⟩

open Cert.KernelIdeal.Hand Cert.ReferenceIdeal.Hand in
/-- The kernel's three results are the reference's functions of the arguments, when the arguments are legal. -/
theorem results_eq (m : (ℓ : Loc Cert.KernelIdeal.nD Cert.KernelIdeal.τ Cert.KernelIdeal.sig) → Buf (Elt Ideal) ℓ) (c : Dev Cert.KernelIdeal.nD) (hin : ∀ i, (tgtA m c i).toNat < 32000) (hs : Seen m c) :
    (res6 m c (ok m) = out0 (Cert.ReferenceIdeal.Gen.k0_pay1 (codesA m c) (wA m c)) (scalesA m c) (wsA m c) (maskA m c))
    ∧ (res7 m c (ok m) = out1 (Cert.ReferenceIdeal.Gen.k0_pay1 (codesA m c) (wA m c)) (scalesA m c) (wsA m c) (maskA m c) (tgtA m c))
    ∧ (res8 m c (ok m) = out2 (Cert.ReferenceIdeal.Gen.k0_pay1 (codesA m c) (wA m c)) (scalesA m c) (wsA m c) (maskA m c)) := by
  refine ⟨funext fun i => ?_, funext fun i => ?_, funext fun i => ?_⟩
  · obtain ⟨r, rfl⟩ := row_index 2688 i
    exact (res6_apply m (ok m) c hs r).trans (out0_apply _ _ _ _ _ r).symm
  · obtain ⟨r, rfl⟩ := row_index 2688 i
    exact (res7_apply m (ok m) c hs r (hin _)).trans (out1_apply _ _ _ _ _ _ hin r).symm
  · obtain ⟨j, r, rfl⟩ := pair_index 63 2688 i
    exact (res8_apply m (ok m) c hs j r).trans (out2_apply _ _ _ _ _ j r).symm

/-- The kernel and the reference, from equal legal arguments, end with equal results. -/
theorem agree : algebraic_KernelIdeal_ReferenceIdeal_pre_legal (hKernelIdeal := Cert.KernelIdeal.Gen.facts) (hReferenceIdeal := Cert.ReferenceIdeal.Gen.facts) (hPre_legal := Cert.Head.pre_facts) := by
  intro m g m' g' hpre hargs
  refine ⟨fun c => Cert.KernelIdeal.Hand.res6 m c (Cert.KernelIdeal.Hand.ok m), fun c => Cert.KernelIdeal.Hand.res7 m c (Cert.KernelIdeal.Hand.ok m),
    fun c => Cert.KernelIdeal.Hand.res8 m c (Cert.KernelIdeal.Hand.ok m), ?_, ?_⟩
  · exact (θ_run _ _ _).mono (fun r h c => h.1 c) (Cert.KernelIdeal.Hand.run_results m g)
  · refine (θ_run _ _ _).mono (fun r h c => ?_) (θ_run_and (Cert.ReferenceIdeal.Hand.run_results m' g') (Cert.ReferenceIdeal.Gen.unchanged m' g'))
    obtain ⟨e0, e1, e2, e3, e4, e5, -⟩ := hargs c
    obtain ⟨hin, hs⟩ := @Cert.Head.legal_read Cert.Head.pre_facts _ _ _ _ _ _ _ _ _ _ (fun k => k.elim0) (congrFun (hpre c) _)
    obtain ⟨q0, q1, q2⟩ := results_eq m c hin hs
    obtain ⟨h0, h1, h2⟩ := h.1 c
    rw [e0, e1, e2, e3, e4] at h0 h2
    rw [e0, e1, e2, e3, e4, e5] at h1
    exact ⟨h0.trans q0.symm, h1.trans q1.symm, h2.trans q2.symm, h.2 c⟩

/-- The printed kernel, the idealised kernel and the reference run to the end, leave their arguments and counters alone; the kernel is its idealisation;
the kernel's results are the reference's. -/
theorem claim : Cert.Claim :=
  ⟨Cert.Kernel.Gen.facts, Cert.KernelIdeal.Gen.facts, Cert.ReferenceIdeal.Gen.facts, Cert.Head.pre_facts,
    Cert.Kernel.Hand.frame, fun m g _ => Cert.KernelIdeal.Hand.frame m g, fun m g _ => Cert.KernelIdeal.Hand.frame m g,
    fun m g _ => Cert.ReferenceIdeal.Gen.frame m g, fun m g _ => Cert.ReferenceIdeal.Gen.frame m g, trivial,
    agree⟩

end Cert.Proof

end
